-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2048x1024 : Shape := ⟨2, ![2048, 1024]⟩
abbrev S4x16 : Shape := ⟨2, ![4, 16]⟩
abbrev S_ : Shape := ⟨0, ![]⟩
abbrev S128x1024 : Shape := ⟨2, ![128, 1024]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S2048x1024, .bf16⟩
  | .local _ .vmem, ⟨3, _⟩ => ⟨S2048x1024, .bf16⟩
  | _, _ => ⟨S4096x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let c3_i32 : BitVec 32 := 3#32
  let v10 : BitVec 1 := Scalar.cmpi .eq v5 c3_i32
  let v11 : BitVec 1 := Scalar.ori v9 v10
  let v20 : BitVec 32 := Scalar.extui v11
  let c0_i32_12 : BitVec 32 := 0#32
  let v21 : BitVec 1 := Scalar.cmpi .ne v20 c0_i32_12
  v21

def k0_dev1 (d0 : Dev nD) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v32 : BitVec 32 := Scalar.muli v2 c16_i32_19
  let v33 : BitVec 32 := Scalar.addi c0_i32_20 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_21 : BitVec 32 := 4#32
  let v34 : BitVec 32 := Scalar.muli v13 c4_i32_21
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v36 : BitVec 32 := Scalar.muli v8 c1_i32_22
  let v37 : BitVec 32 := Scalar.addi v35 v36
  v37.toNat
def k0_dev2 (d0 : Dev nD) : Nat :=
  let c0_i32_25 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_24 : BitVec 32 := 16#32
  let v38 : BitVec 32 := Scalar.muli v18 c16_i32_24
  let v39 : BitVec 32 := Scalar.addi c0_i32_25 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_26 : BitVec 32 := 4#32
  let v40 : BitVec 32 := Scalar.muli v5 c4_i32_26
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v42 : BitVec 32 := Scalar.muli v8 c1_i32_27
  let v43 : BitVec 32 := Scalar.addi v41 v42
  v43.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let c3_i32 : BitVec 32 := 3#32
  let v10 : BitVec 1 := Scalar.cmpi .eq v5 c3_i32
  let v11 : BitVec 1 := Scalar.ori v9 v10
  let v_true : BitVec 1 := 1#1
  let v22 : BitVec 1 := Scalar.xori v11 v_true
  let v23 : BitVec 32 := Scalar.extui v22
  let c0_i32_13 : BitVec 32 := 0#32
  let v24 : BitVec 1 := Scalar.cmpi .ne v23 c0_i32_13
  v24

def k0_dev3 (d0 : Dev nD) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v32 : BitVec 32 := Scalar.muli v2 c16_i32_19
  let v33 : BitVec 32 := Scalar.addi c0_i32_20 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_21 : BitVec 32 := 4#32
  let v34 : BitVec 32 := Scalar.muli v15 c4_i32_21
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v36 : BitVec 32 := Scalar.muli v8 c1_i32_22
  let v37 : BitVec 32 := Scalar.addi v35 v36
  v37.toNat
def k0_dev4 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v38 : BitVec 32 := Scalar.muli v2 c16_i32_24
  let v39 : BitVec 32 := Scalar.addi c0_i32_25 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_26 : BitVec 32 := 4#32
  let v40 : BitVec 32 := Scalar.muli v17 c4_i32_26
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v42 : BitVec 32 := Scalar.muli v8 c1_i32_27
  let v43 : BitVec 32 := Scalar.addi v41 v42
  v43.toNat
def k0_dev5 (d0 : Dev nD) : Nat :=
  let c0_i32_30 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_29 : BitVec 32 := 16#32
  let v44 : BitVec 32 := Scalar.muli v18 c16_i32_29
  let v45 : BitVec 32 := Scalar.addi c0_i32_30 v44
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v46 : BitVec 32 := Scalar.muli v5 c4_i32_31
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v48 : BitVec 32 := Scalar.muli v8 c1_i32_32
  let v49 : BitVec 32 := Scalar.addi v47 v48
  v49.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let c3_i32 : BitVec 32 := 3#32
  let v10 : BitVec 1 := Scalar.cmpi .eq v5 c3_i32
  let v11 : BitVec 1 := Scalar.ori v9 v10
  let v27 : BitVec 32 := Scalar.extui v11
  let c0_i32_15 : BitVec 32 := 0#32
  let v28 : BitVec 1 := Scalar.cmpi .ne v27 c0_i32_15
  v28

def k0_off1 (d0 : Dev nD) (c0_i32_18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v25 : BitVec 32 := Scalar.muli v2 c2048_i32
  let v32 : BitVec 32 := Scalar.addi v25 c0_i32_18
  let v33 : Index := Scalar.indexCast v32
  let c0 : Index := 0#32
  ![v33.toNat, 0]
def k0_off2 (d0 : Dev nD) (c0_i32_18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v25 : BitVec 32 := Scalar.muli v2 c2048_i32
  let v32 : BitVec 32 := Scalar.addi v25 c0_i32_18
  let c0_i32_30 : BitVec 32 := 0#32
  ![v32.toNat, 0]
def k0_dev6 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v38 : BitVec 32 := Scalar.muli v2 c16_i32_24
  let v39 : BitVec 32 := Scalar.addi c0_i32_25 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_26 : BitVec 32 := 4#32
  let v40 : BitVec 32 := Scalar.muli v13 c4_i32_26
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v42 : BitVec 32 := Scalar.muli v8 c1_i32_27
  let v43 : BitVec 32 := Scalar.addi v41 v42
  v43.toNat
def k0_dev7 (d0 : Dev nD) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_37 : BitVec 32 := 16#32
  let v56 : BitVec 32 := Scalar.muli v2 c16_i32_37
  let v57 : BitVec 32 := Scalar.addi c0_i32_38 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_39 : BitVec 32 := 4#32
  let v58 : BitVec 32 := Scalar.muli v13 c4_i32_39
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v60 : BitVec 32 := Scalar.muli v8 c1_i32_40
  let v61 : BitVec 32 := Scalar.addi v59 v60
  v61.toNat
def k0_dev8 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v74 : BitVec 32 := Scalar.muli v2 c16_i32_50
  let v75 : BitVec 32 := Scalar.addi c0_i32_51 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_52 : BitVec 32 := 4#32
  let v76 : BitVec 32 := Scalar.muli v13 c4_i32_52
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v78 : BitVec 32 := Scalar.muli v8 c1_i32_53
  let v79 : BitVec 32 := Scalar.addi v77 v78
  v79.toNat
def k0_dev9 (d0 : Dev nD) : Nat :=
  let c0_i32_64 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_63 : BitVec 32 := 16#32
  let v92 : BitVec 32 := Scalar.muli v2 c16_i32_63
  let v93 : BitVec 32 := Scalar.addi c0_i32_64 v92
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_65 : BitVec 32 := 4#32
  let v94 : BitVec 32 := Scalar.muli v13 c4_i32_65
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v96 : BitVec 32 := Scalar.muli v8 c1_i32_66
  let v97 : BitVec 32 := Scalar.addi v95 v96
  v97.toNat
def k0_dev10 (d0 : Dev nD) : Nat :=
  let c0_i32_77 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_76 : BitVec 32 := 16#32
  let v110 : BitVec 32 := Scalar.muli v2 c16_i32_76
  let v111 : BitVec 32 := Scalar.addi c0_i32_77 v110
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_78 : BitVec 32 := 4#32
  let v112 : BitVec 32 := Scalar.muli v13 c4_i32_78
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v114 : BitVec 32 := Scalar.muli v8 c1_i32_79
  let v115 : BitVec 32 := Scalar.addi v113 v114
  v115.toNat
def k0_dev11 (d0 : Dev nD) : Nat :=
  let c0_i32_89 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_88 : BitVec 32 := 16#32
  let v128 : BitVec 32 := Scalar.muli v2 c16_i32_88
  let v129 : BitVec 32 := Scalar.addi c0_i32_89 v128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_90 : BitVec 32 := 4#32
  let v130 : BitVec 32 := Scalar.muli v13 c4_i32_90
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v132 : BitVec 32 := Scalar.muli v8 c1_i32_91
  let v133 : BitVec 32 := Scalar.addi v131 v132
  v133.toNat
def k0_dev12 (d0 : Dev nD) : Nat :=
  let c0_i32_101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_100 : BitVec 32 := 16#32
  let v146 : BitVec 32 := Scalar.muli v2 c16_i32_100
  let v147 : BitVec 32 := Scalar.addi c0_i32_101 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_102 : BitVec 32 := 4#32
  let v148 : BitVec 32 := Scalar.muli v13 c4_i32_102
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v150 : BitVec 32 := Scalar.muli v8 c1_i32_103
  let v151 : BitVec 32 := Scalar.addi v149 v150
  v151.toNat
def k0_dev13 (d0 : Dev nD) : Nat :=
  let c0_i32_113 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_112 : BitVec 32 := 16#32
  let v164 : BitVec 32 := Scalar.muli v2 c16_i32_112
  let v165 : BitVec 32 := Scalar.addi c0_i32_113 v164
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_114 : BitVec 32 := 4#32
  let v166 : BitVec 32 := Scalar.muli v13 c4_i32_114
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v168 : BitVec 32 := Scalar.muli v8 c1_i32_115
  let v169 : BitVec 32 := Scalar.addi v167 v168
  v169.toNat
def k0_dev14 (d0 : Dev nD) : Nat :=
  let c0_i32_125 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_124 : BitVec 32 := 16#32
  let v182 : BitVec 32 := Scalar.muli v2 c16_i32_124
  let v183 : BitVec 32 := Scalar.addi c0_i32_125 v182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_126 : BitVec 32 := 4#32
  let v184 : BitVec 32 := Scalar.muli v13 c4_i32_126
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v186 : BitVec 32 := Scalar.muli v8 c1_i32_127
  let v187 : BitVec 32 := Scalar.addi v185 v186
  v187.toNat
def k0_dev15 (d0 : Dev nD) : Nat :=
  let c0_i32_137 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_136 : BitVec 32 := 16#32
  let v200 : BitVec 32 := Scalar.muli v2 c16_i32_136
  let v201 : BitVec 32 := Scalar.addi c0_i32_137 v200
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_138 : BitVec 32 := 4#32
  let v202 : BitVec 32 := Scalar.muli v13 c4_i32_138
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v204 : BitVec 32 := Scalar.muli v8 c1_i32_139
  let v205 : BitVec 32 := Scalar.addi v203 v204
  v205.toNat
def k0_dev16 (d0 : Dev nD) : Nat :=
  let c0_i32_149 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_148 : BitVec 32 := 16#32
  let v218 : BitVec 32 := Scalar.muli v2 c16_i32_148
  let v219 : BitVec 32 := Scalar.addi c0_i32_149 v218
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_150 : BitVec 32 := 4#32
  let v220 : BitVec 32 := Scalar.muli v13 c4_i32_150
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v222 : BitVec 32 := Scalar.muli v8 c1_i32_151
  let v223 : BitVec 32 := Scalar.addi v221 v222
  v223.toNat
def k0_dev17 (d0 : Dev nD) : Nat :=
  let c0_i32_161 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_160 : BitVec 32 := 16#32
  let v236 : BitVec 32 := Scalar.muli v2 c16_i32_160
  let v237 : BitVec 32 := Scalar.addi c0_i32_161 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_162 : BitVec 32 := 4#32
  let v238 : BitVec 32 := Scalar.muli v13 c4_i32_162
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v240 : BitVec 32 := Scalar.muli v8 c1_i32_163
  let v241 : BitVec 32 := Scalar.addi v239 v240
  v241.toNat
def k0_dev18 (d0 : Dev nD) : Nat :=
  let c0_i32_173 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_172 : BitVec 32 := 16#32
  let v254 : BitVec 32 := Scalar.muli v2 c16_i32_172
  let v255 : BitVec 32 := Scalar.addi c0_i32_173 v254
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_174 : BitVec 32 := 4#32
  let v256 : BitVec 32 := Scalar.muli v13 c4_i32_174
  let v257 : BitVec 32 := Scalar.addi v255 v256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v258 : BitVec 32 := Scalar.muli v8 c1_i32_175
  let v259 : BitVec 32 := Scalar.addi v257 v258
  v259.toNat
def k0_dev19 (d0 : Dev nD) : Nat :=
  let c0_i32_185 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_184 : BitVec 32 := 16#32
  let v272 : BitVec 32 := Scalar.muli v2 c16_i32_184
  let v273 : BitVec 32 := Scalar.addi c0_i32_185 v272
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_186 : BitVec 32 := 4#32
  let v274 : BitVec 32 := Scalar.muli v13 c4_i32_186
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_187 : BitVec 32 := 1#32
  let v276 : BitVec 32 := Scalar.muli v8 c1_i32_187
  let v277 : BitVec 32 := Scalar.addi v275 v276
  v277.toNat
def k0_dev20 (d0 : Dev nD) : Nat :=
  let c0_i32_197 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_196 : BitVec 32 := 16#32
  let v290 : BitVec 32 := Scalar.muli v2 c16_i32_196
  let v291 : BitVec 32 := Scalar.addi c0_i32_197 v290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_198 : BitVec 32 := 4#32
  let v292 : BitVec 32 := Scalar.muli v13 c4_i32_198
  let v293 : BitVec 32 := Scalar.addi v291 v292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_199 : BitVec 32 := 1#32
  let v294 : BitVec 32 := Scalar.muli v8 c1_i32_199
  let v295 : BitVec 32 := Scalar.addi v293 v294
  v295.toNat
def k0_dev21 (d0 : Dev nD) : Nat :=
  let c0_i32_209 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_208 : BitVec 32 := 16#32
  let v308 : BitVec 32 := Scalar.muli v2 c16_i32_208
  let v309 : BitVec 32 := Scalar.addi c0_i32_209 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v12 : BitVec 1 := Scalar.cmpi .eq v5 c0_i32_2
  let c1_i32_3 : BitVec 32 := 1#32
  let c2_i32_4 : BitVec 32 := 2#32
  let v13 : BitVec 32 := Scalar.select v12 c1_i32_3 c2_i32_4
  let c4_i32_210 : BitVec 32 := 4#32
  let v310 : BitVec 32 := Scalar.muli v13 c4_i32_210
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v312 : BitVec 32 := Scalar.muli v8 c1_i32_211
  let v313 : BitVec 32 := Scalar.addi v311 v312
  v313.toNat
def k0_dev22 (d0 : Dev nD) : Nat :=
  let c0_i32_231 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_230 : BitVec 32 := 16#32
  let v331 : BitVec 32 := Scalar.muli v18 c16_i32_230
  let v332 : BitVec 32 := Scalar.addi c0_i32_231 v331
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_232 : BitVec 32 := 4#32
  let v333 : BitVec 32 := Scalar.muli v5 c4_i32_232
  let v334 : BitVec 32 := Scalar.addi v332 v333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v335 : BitVec 32 := Scalar.muli v8 c1_i32_233
  let v336 : BitVec 32 := Scalar.addi v334 v335
  v336.toNat
def k0_dev23 (d0 : Dev nD) : Nat :=
  let c0_i32_252 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_251 : BitVec 32 := 16#32
  let v354 : BitVec 32 := Scalar.muli v18 c16_i32_251
  let v355 : BitVec 32 := Scalar.addi c0_i32_252 v354
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_253 : BitVec 32 := 4#32
  let v356 : BitVec 32 := Scalar.muli v5 c4_i32_253
  let v357 : BitVec 32 := Scalar.addi v355 v356
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_254 : BitVec 32 := 1#32
  let v358 : BitVec 32 := Scalar.muli v8 c1_i32_254
  let v359 : BitVec 32 := Scalar.addi v357 v358
  v359.toNat
def k0_dev24 (d0 : Dev nD) : Nat :=
  let c0_i32_273 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_272 : BitVec 32 := 16#32
  let v377 : BitVec 32 := Scalar.muli v18 c16_i32_272
  let v378 : BitVec 32 := Scalar.addi c0_i32_273 v377
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_274 : BitVec 32 := 4#32
  let v379 : BitVec 32 := Scalar.muli v5 c4_i32_274
  let v380 : BitVec 32 := Scalar.addi v378 v379
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_275 : BitVec 32 := 1#32
  let v381 : BitVec 32 := Scalar.muli v8 c1_i32_275
  let v382 : BitVec 32 := Scalar.addi v380 v381
  v382.toNat
def k0_dev25 (d0 : Dev nD) : Nat :=
  let c0_i32_294 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_293 : BitVec 32 := 16#32
  let v400 : BitVec 32 := Scalar.muli v18 c16_i32_293
  let v401 : BitVec 32 := Scalar.addi c0_i32_294 v400
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_295 : BitVec 32 := 4#32
  let v402 : BitVec 32 := Scalar.muli v5 c4_i32_295
  let v403 : BitVec 32 := Scalar.addi v401 v402
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_296 : BitVec 32 := 1#32
  let v404 : BitVec 32 := Scalar.muli v8 c1_i32_296
  let v405 : BitVec 32 := Scalar.addi v403 v404
  v405.toNat
def k0_dev26 (d0 : Dev nD) : Nat :=
  let c0_i32_315 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_314 : BitVec 32 := 16#32
  let v423 : BitVec 32 := Scalar.muli v18 c16_i32_314
  let v424 : BitVec 32 := Scalar.addi c0_i32_315 v423
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_316 : BitVec 32 := 4#32
  let v425 : BitVec 32 := Scalar.muli v5 c4_i32_316
  let v426 : BitVec 32 := Scalar.addi v424 v425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v427 : BitVec 32 := Scalar.muli v8 c1_i32_317
  let v428 : BitVec 32 := Scalar.addi v426 v427
  v428.toNat
def k0_dev27 (d0 : Dev nD) : Nat :=
  let c0_i32_336 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_335 : BitVec 32 := 16#32
  let v446 : BitVec 32 := Scalar.muli v18 c16_i32_335
  let v447 : BitVec 32 := Scalar.addi c0_i32_336 v446
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_337 : BitVec 32 := 4#32
  let v448 : BitVec 32 := Scalar.muli v5 c4_i32_337
  let v449 : BitVec 32 := Scalar.addi v447 v448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_338 : BitVec 32 := 1#32
  let v450 : BitVec 32 := Scalar.muli v8 c1_i32_338
  let v451 : BitVec 32 := Scalar.addi v449 v450
  v451.toNat
def k0_dev28 (d0 : Dev nD) : Nat :=
  let c0_i32_357 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_356 : BitVec 32 := 16#32
  let v469 : BitVec 32 := Scalar.muli v18 c16_i32_356
  let v470 : BitVec 32 := Scalar.addi c0_i32_357 v469
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v471 : BitVec 32 := Scalar.muli v5 c4_i32_358
  let v472 : BitVec 32 := Scalar.addi v470 v471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v473 : BitVec 32 := Scalar.muli v8 c1_i32_359
  let v474 : BitVec 32 := Scalar.addi v472 v473
  v474.toNat
def k0_dev29 (d0 : Dev nD) : Nat :=
  let c0_i32_378 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_377 : BitVec 32 := 16#32
  let v492 : BitVec 32 := Scalar.muli v18 c16_i32_377
  let v493 : BitVec 32 := Scalar.addi c0_i32_378 v492
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_379 : BitVec 32 := 4#32
  let v494 : BitVec 32 := Scalar.muli v5 c4_i32_379
  let v495 : BitVec 32 := Scalar.addi v493 v494
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_380 : BitVec 32 := 1#32
  let v496 : BitVec 32 := Scalar.muli v8 c1_i32_380
  let v497 : BitVec 32 := Scalar.addi v495 v496
  v497.toNat
def k0_dev30 (d0 : Dev nD) : Nat :=
  let c0_i32_399 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_398 : BitVec 32 := 16#32
  let v515 : BitVec 32 := Scalar.muli v18 c16_i32_398
  let v516 : BitVec 32 := Scalar.addi c0_i32_399 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_400 : BitVec 32 := 4#32
  let v517 : BitVec 32 := Scalar.muli v5 c4_i32_400
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_401 : BitVec 32 := 1#32
  let v519 : BitVec 32 := Scalar.muli v8 c1_i32_401
  let v520 : BitVec 32 := Scalar.addi v518 v519
  v520.toNat
def k0_dev31 (d0 : Dev nD) : Nat :=
  let c0_i32_420 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_419 : BitVec 32 := 16#32
  let v538 : BitVec 32 := Scalar.muli v18 c16_i32_419
  let v539 : BitVec 32 := Scalar.addi c0_i32_420 v538
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_421 : BitVec 32 := 4#32
  let v540 : BitVec 32 := Scalar.muli v5 c4_i32_421
  let v541 : BitVec 32 := Scalar.addi v539 v540
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_422 : BitVec 32 := 1#32
  let v542 : BitVec 32 := Scalar.muli v8 c1_i32_422
  let v543 : BitVec 32 := Scalar.addi v541 v542
  v543.toNat
def k0_dev32 (d0 : Dev nD) : Nat :=
  let c0_i32_441 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_440 : BitVec 32 := 16#32
  let v561 : BitVec 32 := Scalar.muli v18 c16_i32_440
  let v562 : BitVec 32 := Scalar.addi c0_i32_441 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_442 : BitVec 32 := 4#32
  let v563 : BitVec 32 := Scalar.muli v5 c4_i32_442
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_443 : BitVec 32 := 1#32
  let v565 : BitVec 32 := Scalar.muli v8 c1_i32_443
  let v566 : BitVec 32 := Scalar.addi v564 v565
  v566.toNat
def k0_dev33 (d0 : Dev nD) : Nat :=
  let c0_i32_462 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_461 : BitVec 32 := 16#32
  let v584 : BitVec 32 := Scalar.muli v18 c16_i32_461
  let v585 : BitVec 32 := Scalar.addi c0_i32_462 v584
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_463 : BitVec 32 := 4#32
  let v586 : BitVec 32 := Scalar.muli v5 c4_i32_463
  let v587 : BitVec 32 := Scalar.addi v585 v586
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_464 : BitVec 32 := 1#32
  let v588 : BitVec 32 := Scalar.muli v8 c1_i32_464
  let v589 : BitVec 32 := Scalar.addi v587 v588
  v589.toNat
def k0_dev34 (d0 : Dev nD) : Nat :=
  let c0_i32_483 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_482 : BitVec 32 := 16#32
  let v607 : BitVec 32 := Scalar.muli v18 c16_i32_482
  let v608 : BitVec 32 := Scalar.addi c0_i32_483 v607
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_484 : BitVec 32 := 4#32
  let v609 : BitVec 32 := Scalar.muli v5 c4_i32_484
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_485 : BitVec 32 := 1#32
  let v611 : BitVec 32 := Scalar.muli v8 c1_i32_485
  let v612 : BitVec 32 := Scalar.addi v610 v611
  v612.toNat
def k0_dev35 (d0 : Dev nD) : Nat :=
  let c0_i32_504 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_503 : BitVec 32 := 16#32
  let v630 : BitVec 32 := Scalar.muli v18 c16_i32_503
  let v631 : BitVec 32 := Scalar.addi c0_i32_504 v630
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_505 : BitVec 32 := 4#32
  let v632 : BitVec 32 := Scalar.muli v5 c4_i32_505
  let v633 : BitVec 32 := Scalar.addi v631 v632
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_506 : BitVec 32 := 1#32
  let v634 : BitVec 32 := Scalar.muli v8 c1_i32_506
  let v635 : BitVec 32 := Scalar.addi v633 v634
  v635.toNat
def k0_dev36 (d0 : Dev nD) : Nat :=
  let c0_i32_525 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_524 : BitVec 32 := 16#32
  let v653 : BitVec 32 := Scalar.muli v18 c16_i32_524
  let v654 : BitVec 32 := Scalar.addi c0_i32_525 v653
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_526 : BitVec 32 := 4#32
  let v655 : BitVec 32 := Scalar.muli v5 c4_i32_526
  let v656 : BitVec 32 := Scalar.addi v654 v655
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_527 : BitVec 32 := 1#32
  let v657 : BitVec 32 := Scalar.muli v8 c1_i32_527
  let v658 : BitVec 32 := Scalar.addi v656 v657
  v658.toNat
def k0_dev37 (d0 : Dev nD) : Nat :=
  let c0_i32_546 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_545 : BitVec 32 := 16#32
  let v676 : BitVec 32 := Scalar.muli v18 c16_i32_545
  let v677 : BitVec 32 := Scalar.addi c0_i32_546 v676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_547 : BitVec 32 := 4#32
  let v678 : BitVec 32 := Scalar.muli v5 c4_i32_547
  let v679 : BitVec 32 := Scalar.addi v677 v678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_548 : BitVec 32 := 1#32
  let v680 : BitVec 32 := Scalar.muli v8 c1_i32_548
  let v681 : BitVec 32 := Scalar.addi v679 v680
  v681.toNat
def k0_off3 (d0 : Dev nD) (c0_i32_551 : BitVec 32) : Fin 2 → Nat :=
  let c2048_i32_14 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v25 : BitVec 32 := Scalar.muli v2 c2048_i32
  let v26 : BitVec 32 := Scalar.subi c2048_i32_14 v25
  let v688 : BitVec 32 := Scalar.addi v26 c0_i32_551
  let c0_i32_560 : BitVec 32 := 0#32
  ![v688.toNat, 0]
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let c3_i32 : BitVec 32 := 3#32
  let v10 : BitVec 1 := Scalar.cmpi .eq v5 c3_i32
  let v11 : BitVec 1 := Scalar.ori v9 v10
  let true_16 : BitVec 1 := 1#1
  let v29 : BitVec 1 := Scalar.xori v11 true_16
  let v30 : BitVec 32 := Scalar.extui v29
  let c0_i32_17 : BitVec 32 := 0#32
  let v31 : BitVec 1 := Scalar.cmpi .ne v30 c0_i32_17
  v31

def k0_off4 (d0 : Dev nD) (c0_i32_18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v25 : BitVec 32 := Scalar.muli v2 c2048_i32
  let v32 : BitVec 32 := Scalar.addi v25 c0_i32_18
  let v43 : Index := Scalar.indexCast v32
  let c0 : Index := 0#32
  ![v43.toNat, 0]
def k0_off5 (d0 : Dev nD) (c0_i32_18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v25 : BitVec 32 := Scalar.muli v2 c2048_i32
  let v32 : BitVec 32 := Scalar.addi v25 c0_i32_18
  let c0_i32_44 : BitVec 32 := 0#32
  ![v32.toNat, 0]
def k0_dev38 (d0 : Dev nD) : Nat :=
  let c0_i32_39 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_38 : BitVec 32 := 16#32
  let v50 : BitVec 32 := Scalar.muli v2 c16_i32_38
  let v51 : BitVec 32 := Scalar.addi c0_i32_39 v50
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_40 : BitVec 32 := 4#32
  let v52 : BitVec 32 := Scalar.muli v17 c4_i32_40
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v54 : BitVec 32 := Scalar.muli v8 c1_i32_41
  let v55 : BitVec 32 := Scalar.addi v53 v54
  v55.toNat
def k0_dev39 (d0 : Dev nD) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_72 : BitVec 32 := 16#32
  let v83 : BitVec 32 := Scalar.muli v2 c16_i32_72
  let v84 : BitVec 32 := Scalar.addi c0_i32_73 v83
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_74 : BitVec 32 := 4#32
  let v85 : BitVec 32 := Scalar.muli v15 c4_i32_74
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v87 : BitVec 32 := Scalar.muli v8 c1_i32_75
  let v88 : BitVec 32 := Scalar.addi v86 v87
  v88.toNat
def k0_dev40 (d0 : Dev nD) : Nat :=
  let c0_i32_83 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_82 : BitVec 32 := 16#32
  let v95 : BitVec 32 := Scalar.muli v18 c16_i32_82
  let v96 : BitVec 32 := Scalar.addi c0_i32_83 v95
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_84 : BitVec 32 := 4#32
  let v97 : BitVec 32 := Scalar.muli v5 c4_i32_84
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v99 : BitVec 32 := Scalar.muli v8 c1_i32_85
  let v100 : BitVec 32 := Scalar.addi v98 v99
  v100.toNat
def k0_dev41 (d0 : Dev nD) : Nat :=
  let c0_i32_108 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_107 : BitVec 32 := 16#32
  let v125 : BitVec 32 := Scalar.muli v2 c16_i32_107
  let v126 : BitVec 32 := Scalar.addi c0_i32_108 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_109 : BitVec 32 := 4#32
  let v127 : BitVec 32 := Scalar.muli v17 c4_i32_109
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v129 : BitVec 32 := Scalar.muli v8 c1_i32_110
  let v130 : BitVec 32 := Scalar.addi v128 v129
  v130.toNat
def k0_dev42 (d0 : Dev nD) : Nat :=
  let c0_i32_142 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_141 : BitVec 32 := 16#32
  let v158 : BitVec 32 := Scalar.muli v2 c16_i32_141
  let v159 : BitVec 32 := Scalar.addi c0_i32_142 v158
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_143 : BitVec 32 := 4#32
  let v160 : BitVec 32 := Scalar.muli v15 c4_i32_143
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v162 : BitVec 32 := Scalar.muli v8 c1_i32_144
  let v163 : BitVec 32 := Scalar.addi v161 v162
  v163.toNat
def k0_dev43 (d0 : Dev nD) : Nat :=
  let c0_i32_152 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_151 : BitVec 32 := 16#32
  let v170 : BitVec 32 := Scalar.muli v18 c16_i32_151
  let v171 : BitVec 32 := Scalar.addi c0_i32_152 v170
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_153 : BitVec 32 := 4#32
  let v172 : BitVec 32 := Scalar.muli v5 c4_i32_153
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v174 : BitVec 32 := Scalar.muli v8 c1_i32_154
  let v175 : BitVec 32 := Scalar.addi v173 v174
  v175.toNat
def k0_dev44 (d0 : Dev nD) : Nat :=
  let c0_i32_177 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_176 : BitVec 32 := 16#32
  let v200 : BitVec 32 := Scalar.muli v2 c16_i32_176
  let v201 : BitVec 32 := Scalar.addi c0_i32_177 v200
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_178 : BitVec 32 := 4#32
  let v202 : BitVec 32 := Scalar.muli v17 c4_i32_178
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v204 : BitVec 32 := Scalar.muli v8 c1_i32_179
  let v205 : BitVec 32 := Scalar.addi v203 v204
  v205.toNat
def k0_dev45 (d0 : Dev nD) : Nat :=
  let c0_i32_211 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_210 : BitVec 32 := 16#32
  let v233 : BitVec 32 := Scalar.muli v2 c16_i32_210
  let v234 : BitVec 32 := Scalar.addi c0_i32_211 v233
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_212 : BitVec 32 := 4#32
  let v235 : BitVec 32 := Scalar.muli v15 c4_i32_212
  let v236 : BitVec 32 := Scalar.addi v234 v235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_213 : BitVec 32 := 1#32
  let v237 : BitVec 32 := Scalar.muli v8 c1_i32_213
  let v238 : BitVec 32 := Scalar.addi v236 v237
  v238.toNat
def k0_dev46 (d0 : Dev nD) : Nat :=
  let c0_i32_221 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_220 : BitVec 32 := 16#32
  let v245 : BitVec 32 := Scalar.muli v18 c16_i32_220
  let v246 : BitVec 32 := Scalar.addi c0_i32_221 v245
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_222 : BitVec 32 := 4#32
  let v247 : BitVec 32 := Scalar.muli v5 c4_i32_222
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v249 : BitVec 32 := Scalar.muli v8 c1_i32_223
  let v250 : BitVec 32 := Scalar.addi v248 v249
  v250.toNat
def k0_dev47 (d0 : Dev nD) : Nat :=
  let c0_i32_246 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_245 : BitVec 32 := 16#32
  let v275 : BitVec 32 := Scalar.muli v2 c16_i32_245
  let v276 : BitVec 32 := Scalar.addi c0_i32_246 v275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_247 : BitVec 32 := 4#32
  let v277 : BitVec 32 := Scalar.muli v17 c4_i32_247
  let v278 : BitVec 32 := Scalar.addi v276 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v279 : BitVec 32 := Scalar.muli v8 c1_i32_248
  let v280 : BitVec 32 := Scalar.addi v278 v279
  v280.toNat
def k0_dev48 (d0 : Dev nD) : Nat :=
  let c0_i32_280 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_279 : BitVec 32 := 16#32
  let v308 : BitVec 32 := Scalar.muli v2 c16_i32_279
  let v309 : BitVec 32 := Scalar.addi c0_i32_280 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_281 : BitVec 32 := 4#32
  let v310 : BitVec 32 := Scalar.muli v15 c4_i32_281
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v312 : BitVec 32 := Scalar.muli v8 c1_i32_282
  let v313 : BitVec 32 := Scalar.addi v311 v312
  v313.toNat
def k0_dev49 (d0 : Dev nD) : Nat :=
  let c0_i32_290 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_289 : BitVec 32 := 16#32
  let v320 : BitVec 32 := Scalar.muli v18 c16_i32_289
  let v321 : BitVec 32 := Scalar.addi c0_i32_290 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_291 : BitVec 32 := 4#32
  let v322 : BitVec 32 := Scalar.muli v5 c4_i32_291
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v324 : BitVec 32 := Scalar.muli v8 c1_i32_292
  let v325 : BitVec 32 := Scalar.addi v323 v324
  v325.toNat
def k0_dev50 (d0 : Dev nD) : Nat :=
  let c0_i32_315 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_314 : BitVec 32 := 16#32
  let v350 : BitVec 32 := Scalar.muli v2 c16_i32_314
  let v351 : BitVec 32 := Scalar.addi c0_i32_315 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_316 : BitVec 32 := 4#32
  let v352 : BitVec 32 := Scalar.muli v17 c4_i32_316
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v354 : BitVec 32 := Scalar.muli v8 c1_i32_317
  let v355 : BitVec 32 := Scalar.addi v353 v354
  v355.toNat
def k0_dev51 (d0 : Dev nD) : Nat :=
  let c0_i32_349 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_348 : BitVec 32 := 16#32
  let v383 : BitVec 32 := Scalar.muli v2 c16_i32_348
  let v384 : BitVec 32 := Scalar.addi c0_i32_349 v383
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_350 : BitVec 32 := 4#32
  let v385 : BitVec 32 := Scalar.muli v15 c4_i32_350
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_351 : BitVec 32 := 1#32
  let v387 : BitVec 32 := Scalar.muli v8 c1_i32_351
  let v388 : BitVec 32 := Scalar.addi v386 v387
  v388.toNat
def k0_dev52 (d0 : Dev nD) : Nat :=
  let c0_i32_359 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_358 : BitVec 32 := 16#32
  let v395 : BitVec 32 := Scalar.muli v18 c16_i32_358
  let v396 : BitVec 32 := Scalar.addi c0_i32_359 v395
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_360 : BitVec 32 := 4#32
  let v397 : BitVec 32 := Scalar.muli v5 c4_i32_360
  let v398 : BitVec 32 := Scalar.addi v396 v397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_361 : BitVec 32 := 1#32
  let v399 : BitVec 32 := Scalar.muli v8 c1_i32_361
  let v400 : BitVec 32 := Scalar.addi v398 v399
  v400.toNat
def k0_dev53 (d0 : Dev nD) : Nat :=
  let c0_i32_383 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_382 : BitVec 32 := 16#32
  let v425 : BitVec 32 := Scalar.muli v2 c16_i32_382
  let v426 : BitVec 32 := Scalar.addi c0_i32_383 v425
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_384 : BitVec 32 := 4#32
  let v427 : BitVec 32 := Scalar.muli v17 c4_i32_384
  let v428 : BitVec 32 := Scalar.addi v426 v427
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_385 : BitVec 32 := 1#32
  let v429 : BitVec 32 := Scalar.muli v8 c1_i32_385
  let v430 : BitVec 32 := Scalar.addi v428 v429
  v430.toNat
def k0_dev54 (d0 : Dev nD) : Nat :=
  let c0_i32_417 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_416 : BitVec 32 := 16#32
  let v458 : BitVec 32 := Scalar.muli v2 c16_i32_416
  let v459 : BitVec 32 := Scalar.addi c0_i32_417 v458
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_418 : BitVec 32 := 4#32
  let v460 : BitVec 32 := Scalar.muli v15 c4_i32_418
  let v461 : BitVec 32 := Scalar.addi v459 v460
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_419 : BitVec 32 := 1#32
  let v462 : BitVec 32 := Scalar.muli v8 c1_i32_419
  let v463 : BitVec 32 := Scalar.addi v461 v462
  v463.toNat
def k0_dev55 (d0 : Dev nD) : Nat :=
  let c0_i32_427 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_426 : BitVec 32 := 16#32
  let v470 : BitVec 32 := Scalar.muli v18 c16_i32_426
  let v471 : BitVec 32 := Scalar.addi c0_i32_427 v470
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_428 : BitVec 32 := 4#32
  let v472 : BitVec 32 := Scalar.muli v5 c4_i32_428
  let v473 : BitVec 32 := Scalar.addi v471 v472
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_429 : BitVec 32 := 1#32
  let v474 : BitVec 32 := Scalar.muli v8 c1_i32_429
  let v475 : BitVec 32 := Scalar.addi v473 v474
  v475.toNat
def k0_dev56 (d0 : Dev nD) : Nat :=
  let c0_i32_451 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_450 : BitVec 32 := 16#32
  let v500 : BitVec 32 := Scalar.muli v2 c16_i32_450
  let v501 : BitVec 32 := Scalar.addi c0_i32_451 v500
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_452 : BitVec 32 := 4#32
  let v502 : BitVec 32 := Scalar.muli v17 c4_i32_452
  let v503 : BitVec 32 := Scalar.addi v501 v502
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_453 : BitVec 32 := 1#32
  let v504 : BitVec 32 := Scalar.muli v8 c1_i32_453
  let v505 : BitVec 32 := Scalar.addi v503 v504
  v505.toNat
def k0_dev57 (d0 : Dev nD) : Nat :=
  let c0_i32_485 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_484 : BitVec 32 := 16#32
  let v533 : BitVec 32 := Scalar.muli v2 c16_i32_484
  let v534 : BitVec 32 := Scalar.addi c0_i32_485 v533
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_486 : BitVec 32 := 4#32
  let v535 : BitVec 32 := Scalar.muli v15 c4_i32_486
  let v536 : BitVec 32 := Scalar.addi v534 v535
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_487 : BitVec 32 := 1#32
  let v537 : BitVec 32 := Scalar.muli v8 c1_i32_487
  let v538 : BitVec 32 := Scalar.addi v536 v537
  v538.toNat
def k0_dev58 (d0 : Dev nD) : Nat :=
  let c0_i32_495 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_494 : BitVec 32 := 16#32
  let v545 : BitVec 32 := Scalar.muli v18 c16_i32_494
  let v546 : BitVec 32 := Scalar.addi c0_i32_495 v545
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_496 : BitVec 32 := 4#32
  let v547 : BitVec 32 := Scalar.muli v5 c4_i32_496
  let v548 : BitVec 32 := Scalar.addi v546 v547
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_497 : BitVec 32 := 1#32
  let v549 : BitVec 32 := Scalar.muli v8 c1_i32_497
  let v550 : BitVec 32 := Scalar.addi v548 v549
  v550.toNat
def k0_dev59 (d0 : Dev nD) : Nat :=
  let c0_i32_519 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_518 : BitVec 32 := 16#32
  let v575 : BitVec 32 := Scalar.muli v2 c16_i32_518
  let v576 : BitVec 32 := Scalar.addi c0_i32_519 v575
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_520 : BitVec 32 := 4#32
  let v577 : BitVec 32 := Scalar.muli v17 c4_i32_520
  let v578 : BitVec 32 := Scalar.addi v576 v577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_521 : BitVec 32 := 1#32
  let v579 : BitVec 32 := Scalar.muli v8 c1_i32_521
  let v580 : BitVec 32 := Scalar.addi v578 v579
  v580.toNat
def k0_dev60 (d0 : Dev nD) : Nat :=
  let c0_i32_553 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_552 : BitVec 32 := 16#32
  let v608 : BitVec 32 := Scalar.muli v2 c16_i32_552
  let v609 : BitVec 32 := Scalar.addi c0_i32_553 v608
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_554 : BitVec 32 := 4#32
  let v610 : BitVec 32 := Scalar.muli v15 c4_i32_554
  let v611 : BitVec 32 := Scalar.addi v609 v610
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_555 : BitVec 32 := 1#32
  let v612 : BitVec 32 := Scalar.muli v8 c1_i32_555
  let v613 : BitVec 32 := Scalar.addi v611 v612
  v613.toNat
def k0_dev61 (d0 : Dev nD) : Nat :=
  let c0_i32_563 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_562 : BitVec 32 := 16#32
  let v620 : BitVec 32 := Scalar.muli v18 c16_i32_562
  let v621 : BitVec 32 := Scalar.addi c0_i32_563 v620
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_564 : BitVec 32 := 4#32
  let v622 : BitVec 32 := Scalar.muli v5 c4_i32_564
  let v623 : BitVec 32 := Scalar.addi v621 v622
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_565 : BitVec 32 := 1#32
  let v624 : BitVec 32 := Scalar.muli v8 c1_i32_565
  let v625 : BitVec 32 := Scalar.addi v623 v624
  v625.toNat
def k0_dev62 (d0 : Dev nD) : Nat :=
  let c0_i32_587 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_586 : BitVec 32 := 16#32
  let v650 : BitVec 32 := Scalar.muli v2 c16_i32_586
  let v651 : BitVec 32 := Scalar.addi c0_i32_587 v650
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_588 : BitVec 32 := 4#32
  let v652 : BitVec 32 := Scalar.muli v17 c4_i32_588
  let v653 : BitVec 32 := Scalar.addi v651 v652
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_589 : BitVec 32 := 1#32
  let v654 : BitVec 32 := Scalar.muli v8 c1_i32_589
  let v655 : BitVec 32 := Scalar.addi v653 v654
  v655.toNat
def k0_dev63 (d0 : Dev nD) : Nat :=
  let c0_i32_621 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_620 : BitVec 32 := 16#32
  let v683 : BitVec 32 := Scalar.muli v2 c16_i32_620
  let v684 : BitVec 32 := Scalar.addi c0_i32_621 v683
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_622 : BitVec 32 := 4#32
  let v685 : BitVec 32 := Scalar.muli v15 c4_i32_622
  let v686 : BitVec 32 := Scalar.addi v684 v685
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_623 : BitVec 32 := 1#32
  let v687 : BitVec 32 := Scalar.muli v8 c1_i32_623
  let v688 : BitVec 32 := Scalar.addi v686 v687
  v688.toNat
def k0_dev64 (d0 : Dev nD) : Nat :=
  let c0_i32_631 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_630 : BitVec 32 := 16#32
  let v695 : BitVec 32 := Scalar.muli v18 c16_i32_630
  let v696 : BitVec 32 := Scalar.addi c0_i32_631 v695
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_632 : BitVec 32 := 4#32
  let v697 : BitVec 32 := Scalar.muli v5 c4_i32_632
  let v698 : BitVec 32 := Scalar.addi v696 v697
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_633 : BitVec 32 := 1#32
  let v699 : BitVec 32 := Scalar.muli v8 c1_i32_633
  let v700 : BitVec 32 := Scalar.addi v698 v699
  v700.toNat
def k0_dev65 (d0 : Dev nD) : Nat :=
  let c0_i32_655 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_654 : BitVec 32 := 16#32
  let v725 : BitVec 32 := Scalar.muli v2 c16_i32_654
  let v726 : BitVec 32 := Scalar.addi c0_i32_655 v725
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_656 : BitVec 32 := 4#32
  let v727 : BitVec 32 := Scalar.muli v17 c4_i32_656
  let v728 : BitVec 32 := Scalar.addi v726 v727
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_657 : BitVec 32 := 1#32
  let v729 : BitVec 32 := Scalar.muli v8 c1_i32_657
  let v730 : BitVec 32 := Scalar.addi v728 v729
  v730.toNat
def k0_dev66 (d0 : Dev nD) : Nat :=
  let c0_i32_689 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_688 : BitVec 32 := 16#32
  let v758 : BitVec 32 := Scalar.muli v2 c16_i32_688
  let v759 : BitVec 32 := Scalar.addi c0_i32_689 v758
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_690 : BitVec 32 := 4#32
  let v760 : BitVec 32 := Scalar.muli v15 c4_i32_690
  let v761 : BitVec 32 := Scalar.addi v759 v760
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_691 : BitVec 32 := 1#32
  let v762 : BitVec 32 := Scalar.muli v8 c1_i32_691
  let v763 : BitVec 32 := Scalar.addi v761 v762
  v763.toNat
def k0_dev67 (d0 : Dev nD) : Nat :=
  let c0_i32_699 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_698 : BitVec 32 := 16#32
  let v770 : BitVec 32 := Scalar.muli v18 c16_i32_698
  let v771 : BitVec 32 := Scalar.addi c0_i32_699 v770
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_700 : BitVec 32 := 4#32
  let v772 : BitVec 32 := Scalar.muli v5 c4_i32_700
  let v773 : BitVec 32 := Scalar.addi v771 v772
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_701 : BitVec 32 := 1#32
  let v774 : BitVec 32 := Scalar.muli v8 c1_i32_701
  let v775 : BitVec 32 := Scalar.addi v773 v774
  v775.toNat
def k0_dev68 (d0 : Dev nD) : Nat :=
  let c0_i32_723 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_722 : BitVec 32 := 16#32
  let v800 : BitVec 32 := Scalar.muli v2 c16_i32_722
  let v801 : BitVec 32 := Scalar.addi c0_i32_723 v800
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_724 : BitVec 32 := 4#32
  let v802 : BitVec 32 := Scalar.muli v17 c4_i32_724
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_725 : BitVec 32 := 1#32
  let v804 : BitVec 32 := Scalar.muli v8 c1_i32_725
  let v805 : BitVec 32 := Scalar.addi v803 v804
  v805.toNat
def k0_dev69 (d0 : Dev nD) : Nat :=
  let c0_i32_757 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_756 : BitVec 32 := 16#32
  let v833 : BitVec 32 := Scalar.muli v2 c16_i32_756
  let v834 : BitVec 32 := Scalar.addi c0_i32_757 v833
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_758 : BitVec 32 := 4#32
  let v835 : BitVec 32 := Scalar.muli v15 c4_i32_758
  let v836 : BitVec 32 := Scalar.addi v834 v835
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_759 : BitVec 32 := 1#32
  let v837 : BitVec 32 := Scalar.muli v8 c1_i32_759
  let v838 : BitVec 32 := Scalar.addi v836 v837
  v838.toNat
def k0_dev70 (d0 : Dev nD) : Nat :=
  let c0_i32_767 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_766 : BitVec 32 := 16#32
  let v845 : BitVec 32 := Scalar.muli v18 c16_i32_766
  let v846 : BitVec 32 := Scalar.addi c0_i32_767 v845
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_768 : BitVec 32 := 4#32
  let v847 : BitVec 32 := Scalar.muli v5 c4_i32_768
  let v848 : BitVec 32 := Scalar.addi v846 v847
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_769 : BitVec 32 := 1#32
  let v849 : BitVec 32 := Scalar.muli v8 c1_i32_769
  let v850 : BitVec 32 := Scalar.addi v848 v849
  v850.toNat
def k0_dev71 (d0 : Dev nD) : Nat :=
  let c0_i32_791 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_790 : BitVec 32 := 16#32
  let v875 : BitVec 32 := Scalar.muli v2 c16_i32_790
  let v876 : BitVec 32 := Scalar.addi c0_i32_791 v875
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_792 : BitVec 32 := 4#32
  let v877 : BitVec 32 := Scalar.muli v17 c4_i32_792
  let v878 : BitVec 32 := Scalar.addi v876 v877
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_793 : BitVec 32 := 1#32
  let v879 : BitVec 32 := Scalar.muli v8 c1_i32_793
  let v880 : BitVec 32 := Scalar.addi v878 v879
  v880.toNat
def k0_dev72 (d0 : Dev nD) : Nat :=
  let c0_i32_825 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_824 : BitVec 32 := 16#32
  let v908 : BitVec 32 := Scalar.muli v2 c16_i32_824
  let v909 : BitVec 32 := Scalar.addi c0_i32_825 v908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_826 : BitVec 32 := 4#32
  let v910 : BitVec 32 := Scalar.muli v15 c4_i32_826
  let v911 : BitVec 32 := Scalar.addi v909 v910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_827 : BitVec 32 := 1#32
  let v912 : BitVec 32 := Scalar.muli v8 c1_i32_827
  let v913 : BitVec 32 := Scalar.addi v911 v912
  v913.toNat
def k0_dev73 (d0 : Dev nD) : Nat :=
  let c0_i32_835 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_834 : BitVec 32 := 16#32
  let v920 : BitVec 32 := Scalar.muli v18 c16_i32_834
  let v921 : BitVec 32 := Scalar.addi c0_i32_835 v920
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_836 : BitVec 32 := 4#32
  let v922 : BitVec 32 := Scalar.muli v5 c4_i32_836
  let v923 : BitVec 32 := Scalar.addi v921 v922
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_837 : BitVec 32 := 1#32
  let v924 : BitVec 32 := Scalar.muli v8 c1_i32_837
  let v925 : BitVec 32 := Scalar.addi v923 v924
  v925.toNat
def k0_dev74 (d0 : Dev nD) : Nat :=
  let c0_i32_859 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_858 : BitVec 32 := 16#32
  let v950 : BitVec 32 := Scalar.muli v2 c16_i32_858
  let v951 : BitVec 32 := Scalar.addi c0_i32_859 v950
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_860 : BitVec 32 := 4#32
  let v952 : BitVec 32 := Scalar.muli v17 c4_i32_860
  let v953 : BitVec 32 := Scalar.addi v951 v952
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_861 : BitVec 32 := 1#32
  let v954 : BitVec 32 := Scalar.muli v8 c1_i32_861
  let v955 : BitVec 32 := Scalar.addi v953 v954
  v955.toNat
def k0_dev75 (d0 : Dev nD) : Nat :=
  let c0_i32_893 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_892 : BitVec 32 := 16#32
  let v983 : BitVec 32 := Scalar.muli v2 c16_i32_892
  let v984 : BitVec 32 := Scalar.addi c0_i32_893 v983
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_894 : BitVec 32 := 4#32
  let v985 : BitVec 32 := Scalar.muli v15 c4_i32_894
  let v986 : BitVec 32 := Scalar.addi v984 v985
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_895 : BitVec 32 := 1#32
  let v987 : BitVec 32 := Scalar.muli v8 c1_i32_895
  let v988 : BitVec 32 := Scalar.addi v986 v987
  v988.toNat
def k0_dev76 (d0 : Dev nD) : Nat :=
  let c0_i32_903 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_902 : BitVec 32 := 16#32
  let v995 : BitVec 32 := Scalar.muli v18 c16_i32_902
  let v996 : BitVec 32 := Scalar.addi c0_i32_903 v995
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_904 : BitVec 32 := 4#32
  let v997 : BitVec 32 := Scalar.muli v5 c4_i32_904
  let v998 : BitVec 32 := Scalar.addi v996 v997
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_905 : BitVec 32 := 1#32
  let v999 : BitVec 32 := Scalar.muli v8 c1_i32_905
  let v1000 : BitVec 32 := Scalar.addi v998 v999
  v1000.toNat
def k0_dev77 (d0 : Dev nD) : Nat :=
  let c0_i32_927 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_926 : BitVec 32 := 16#32
  let v1025 : BitVec 32 := Scalar.muli v2 c16_i32_926
  let v1026 : BitVec 32 := Scalar.addi c0_i32_927 v1025
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_928 : BitVec 32 := 4#32
  let v1027 : BitVec 32 := Scalar.muli v17 c4_i32_928
  let v1028 : BitVec 32 := Scalar.addi v1026 v1027
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_929 : BitVec 32 := 1#32
  let v1029 : BitVec 32 := Scalar.muli v8 c1_i32_929
  let v1030 : BitVec 32 := Scalar.addi v1028 v1029
  v1030.toNat
def k0_dev78 (d0 : Dev nD) : Nat :=
  let c0_i32_961 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_960 : BitVec 32 := 16#32
  let v1058 : BitVec 32 := Scalar.muli v2 c16_i32_960
  let v1059 : BitVec 32 := Scalar.addi c0_i32_961 v1058
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_962 : BitVec 32 := 4#32
  let v1060 : BitVec 32 := Scalar.muli v15 c4_i32_962
  let v1061 : BitVec 32 := Scalar.addi v1059 v1060
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_963 : BitVec 32 := 1#32
  let v1062 : BitVec 32 := Scalar.muli v8 c1_i32_963
  let v1063 : BitVec 32 := Scalar.addi v1061 v1062
  v1063.toNat
def k0_dev79 (d0 : Dev nD) : Nat :=
  let c0_i32_971 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_970 : BitVec 32 := 16#32
  let v1070 : BitVec 32 := Scalar.muli v18 c16_i32_970
  let v1071 : BitVec 32 := Scalar.addi c0_i32_971 v1070
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_972 : BitVec 32 := 4#32
  let v1072 : BitVec 32 := Scalar.muli v5 c4_i32_972
  let v1073 : BitVec 32 := Scalar.addi v1071 v1072
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_973 : BitVec 32 := 1#32
  let v1074 : BitVec 32 := Scalar.muli v8 c1_i32_973
  let v1075 : BitVec 32 := Scalar.addi v1073 v1074
  v1075.toNat
def k0_dev80 (d0 : Dev nD) : Nat :=
  let c0_i32_995 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_994 : BitVec 32 := 16#32
  let v1100 : BitVec 32 := Scalar.muli v2 c16_i32_994
  let v1101 : BitVec 32 := Scalar.addi c0_i32_995 v1100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_996 : BitVec 32 := 4#32
  let v1102 : BitVec 32 := Scalar.muli v17 c4_i32_996
  let v1103 : BitVec 32 := Scalar.addi v1101 v1102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_997 : BitVec 32 := 1#32
  let v1104 : BitVec 32 := Scalar.muli v8 c1_i32_997
  let v1105 : BitVec 32 := Scalar.addi v1103 v1104
  v1105.toNat
def k0_dev81 (d0 : Dev nD) : Nat :=
  let c0_i32_1029 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1028 : BitVec 32 := 16#32
  let v1133 : BitVec 32 := Scalar.muli v2 c16_i32_1028
  let v1134 : BitVec 32 := Scalar.addi c0_i32_1029 v1133
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_1030 : BitVec 32 := 4#32
  let v1135 : BitVec 32 := Scalar.muli v15 c4_i32_1030
  let v1136 : BitVec 32 := Scalar.addi v1134 v1135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1031 : BitVec 32 := 1#32
  let v1137 : BitVec 32 := Scalar.muli v8 c1_i32_1031
  let v1138 : BitVec 32 := Scalar.addi v1136 v1137
  v1138.toNat
def k0_dev82 (d0 : Dev nD) : Nat :=
  let c0_i32_1039 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_1038 : BitVec 32 := 16#32
  let v1145 : BitVec 32 := Scalar.muli v18 c16_i32_1038
  let v1146 : BitVec 32 := Scalar.addi c0_i32_1039 v1145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1040 : BitVec 32 := 4#32
  let v1147 : BitVec 32 := Scalar.muli v5 c4_i32_1040
  let v1148 : BitVec 32 := Scalar.addi v1146 v1147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1041 : BitVec 32 := 1#32
  let v1149 : BitVec 32 := Scalar.muli v8 c1_i32_1041
  let v1150 : BitVec 32 := Scalar.addi v1148 v1149
  v1150.toNat
def k0_dev83 (d0 : Dev nD) : Nat :=
  let c0_i32_1063 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1062 : BitVec 32 := 16#32
  let v1175 : BitVec 32 := Scalar.muli v2 c16_i32_1062
  let v1176 : BitVec 32 := Scalar.addi c0_i32_1063 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v16 : BitVec 1 := Scalar.cmpi .eq v5 c1_i32_8
  let c2_i32_9 : BitVec 32 := 2#32
  let c1_i32_10 : BitVec 32 := 1#32
  let v17 : BitVec 32 := Scalar.select v16 c2_i32_9 c1_i32_10
  let c4_i32_1064 : BitVec 32 := 4#32
  let v1177 : BitVec 32 := Scalar.muli v17 c4_i32_1064
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1065 : BitVec 32 := 1#32
  let v1179 : BitVec 32 := Scalar.muli v8 c1_i32_1065
  let v1180 : BitVec 32 := Scalar.addi v1178 v1179
  v1180.toNat
def k0_dev84 (d0 : Dev nD) : Nat :=
  let c0_i32_1097 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1096 : BitVec 32 := 16#32
  let v1208 : BitVec 32 := Scalar.muli v2 c16_i32_1096
  let v1209 : BitVec 32 := Scalar.addi c0_i32_1097 v1208
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v14 : BitVec 1 := Scalar.cmpi .eq v5 c1_i32_5
  let c0_i32_6 : BitVec 32 := 0#32
  let c3_i32_7 : BitVec 32 := 3#32
  let v15 : BitVec 32 := Scalar.select v14 c0_i32_6 c3_i32_7
  let c4_i32_1098 : BitVec 32 := 4#32
  let v1210 : BitVec 32 := Scalar.muli v15 c4_i32_1098
  let v1211 : BitVec 32 := Scalar.addi v1209 v1210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1099 : BitVec 32 := 1#32
  let v1212 : BitVec 32 := Scalar.muli v8 c1_i32_1099
  let v1213 : BitVec 32 := Scalar.addi v1211 v1212
  v1213.toNat
def k0_dev85 (d0 : Dev nD) : Nat :=
  let c0_i32_1107 : BitVec 32 := 0#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v18 : BitVec 32 := Scalar.subi c1_i32_11 v2
  let c16_i32_1106 : BitVec 32 := 16#32
  let v1220 : BitVec 32 := Scalar.muli v18 c16_i32_1106
  let v1221 : BitVec 32 := Scalar.addi c0_i32_1107 v1220
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1108 : BitVec 32 := 4#32
  let v1222 : BitVec 32 := Scalar.muli v5 c4_i32_1108
  let v1223 : BitVec 32 := Scalar.addi v1221 v1222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1109 : BitVec 32 := 1#32
  let v1224 : BitVec 32 := Scalar.muli v8 c1_i32_1109
  let v1225 : BitVec 32 := Scalar.addi v1223 v1224
  v1225.toNat
def k0_off6 (d0 : Dev nD) (c0_i32_1112 : BitVec 32) : Fin 2 → Nat :=
  let c2048_i32_14 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v25 : BitVec 32 := Scalar.muli v2 c2048_i32
  let v26 : BitVec 32 := Scalar.subi c2048_i32_14 v25
  let v1232 : BitVec 32 := Scalar.addi v26 c0_i32_1112
  let c0_i32_1121 : BitVec 32 := 0#32
  ![v1232.toNat, 0]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S4x4096x1024, .f32⟩
  | .hbm, ⟨3, _⟩ => ⟨S_, .f32⟩
  | .hbm, ⟨4, _⟩ => ⟨S4096x1024, .f32⟩
  | .hbm, ⟨5, _⟩ => ⟨S4096x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Steps.lean ====
/-
# The kernel as a short list of steps

Every device runs one of two programs: an END device (first or last of its column) or a MIDDLE device.
Each program is the same few steps for every one of the sixteen chunks. This file writes those steps with the
chunk number as a variable, and states that the printed kernel is the head followed by those loops.
-/
module

public import proofs.«01_k».proof.Proof.Gen.KernelIdeal
public import proofs.«01_k».proof.Proof.Gen.KernelIdeal.Skeleton

@[expose] public section

noncomputable section

namespace Cert.ReduceProof

open Cert.KernelIdeal Cert.KernelIdeal.Gen
open Idealize.ShloMosaic Idealize.SL.Sem

variable {F : FTy → Type} [FloatOps F]

abbrev PM (F : FTy → Type) [FloatOps F] := Prog (TpuEff nD τ sig (Elt F) Λ₀ .tc)

/-- The four buffers: the staged block of `x`, the staged result, and the two landing buffers. -/
abbrev xM : Memref sig .tc .vmem S4096x1024 .bf16 := Memref.whole cc0_stg0_0
abbrev oM : Memref sig .tc .vmem S4096x1024 .bf16 := Memref.whole cc0_stg1_0
abbrev aM : Memref sig .tc .vmem S2048x1024 .bf16 := Memref.whole cc0_scratch0
abbrev bM : Memref sig .tc .vmem S2048x1024 .bf16 := Memref.whole cc0_scratch1

/-- The offset of chunk `i` in a landing buffer, and the offset of cell `(ph, i)` in a semaphore table. -/
abbrev lo (i : Fin 16) : Fin 2 → Nat := ![128 * i.val, 0]
abbrev so (ph : Fin 4) (i : Fin 16) : Fin 2 → Nat := ![ph.val, i.val]

theorem lo_inb (i : Fin 16) : ∀ a, lo i a + S128x1024.size a ≤ S2048x1024.size a := by revert i; decide
theorem lo_words (i : Fin 16) : (Rect.unit (s := S2048x1024) (lo i) S128x1024.size (lo_inb i)).WholeWords (EltTy.packing .bf16) := by
  revert i; decide +kernel
theorem so_inb (ph : Fin 4) (i : Fin 16) : ∀ a, so ph i a + S1x1.size a ≤ S4x16.size a := by revert ph i; decide

/-- The send cell and the receive cell of phase `ph`, chunk `i`. -/
abbrev sndS (ph : Fin 4) (i : Fin 16) : DmaSem sig :=
  ((cc0_scratch2.slice (Rect.unit (s := S4x16) (so ph i) S1x1.size (so_inb ph i))).squeeze S_ squeezes_S1x1_S_).sem
abbrev rcvS (ph : Fin 4) (i : Fin 16) : DmaSem sig :=
  ((cc0_scratch3.slice (Rect.unit (s := S4x16) (so ph i) S1x1.size (so_inb ph i))).squeeze S_ squeezes_S1x1_S_).sem

abbrev w (i : Fin 16) : BitVec 32 := BitVec.ofNat 32 (128 * i.val)

/-- Chunk `i` of the two landing buffers. -/
abbrev aC (i : Fin 16) : Memref sig .tc .vmem S128x1024 .bf16 := aM.slice (Rect.unit (s := S2048x1024) (lo i) S128x1024.size (lo_inb i)) (fun _ => rfl)
abbrev bC (i : Fin 16) : Memref sig .tc .vmem S128x1024 .bf16 := bM.slice (Rect.unit (s := S2048x1024) (lo i) S128x1024.size (lo_inb i)) (fun _ => rfl)

theorem xW : (xM).IsWhole := Memref.isWhole_whole _
theorem oW : (oM).IsWhole := Memref.isWhole_whole _
theorem aW : (aM).IsWhole := Memref.isWhole_whole _
theorem bW : (bM).IsWhole := Memref.isWhole_whole _

section End
variable (d0 : Dev nD) (h3 : k0_cond3 d0 = 1#1) (i : Fin 16)

abbrev eR : Rect S4096x1024 := Rect.unit (s := S4096x1024) (k0_off1 d0 (w i)) S128x1024.size (k0_off1_inb d0 h3 i)
/-- Chunk `i` of the half the device reduces, and of the other half, in the result buffer. -/
abbrev eC : Memref sig .tc .vmem S128x1024 .bf16 := oM.slice (Rect.unit (s := S4096x1024) (k0_off2 d0 (w i)) S128x1024.size (k0_off2_inb d0 h3 i)) (fun _ => rfl)
abbrev eX : Memref sig .tc .vmem S128x1024 .bf16 := oM.slice (Rect.unit (s := S4096x1024) (k0_off3 d0 (w i)) S128x1024.size (k0_off3_inb d0 h3 i)) (fun _ => rfl)

/-- An end device's first loop: copy the chunk of `x` to the result buffer and send it to the middle device. -/
def end1 : PM F PUnit := do
  let v : Vec F S128x1024 .bf16 ← Prog.lift (.load xM (eR d0 h3 i).toLoadRect (View.loadsAt_vmem h_S128x1024))
  let _u : Vec F S128x1024 .bf16 ← Prog.lift (.load oM (eR d0 h3 i).toLoadRect (View.loadsAt_vmem h_S128x1024))
  Prog.lift (.store oM (eR d0 h3 i) (k0_pay1 v) Finset.univ (View.stores_vmem h_S128x1024 (oW.storeExact_slice rfl _ (k0_off1_packedbf16 d0 h3 i)) (fun _ => rfl)) (.inl rfl))
  Prog.lift (.enqueueDma (eC d0 h3 i) (.remote (Dev.tc (⟨k0_dev6 d0, k0_dev6_lt d0 h3⟩ : Dev nD)) (aC i) (.dma (sndS 0 i))) (.dma (rcvS 0 i)) (oW.wordExact_slice rfl _ (k0_off2_wordsbf16 d0 h3 i)) (aW.wordExact_slice rfl _ (lo_words i)) ⟨⟨rfl, Or.inl rfl⟩, trivial⟩)

/-- Its second loop: wait for the reduced chunk and send it on to the device of the other half. -/
def end2 : PM F PUnit := do
  Prog.lift (.waitDma2 (rcvS 2 i) (eC d0 h3 i) (eC d0 h3 i) (oW.wordExact_slice rfl _ (k0_off2_wordsbf16 d0 h3 i)) (oW.wordExact_slice rfl _ (k0_off2_wordsbf16 d0 h3 i)))
  Prog.lift (.enqueueDma (eC d0 h3 i) (.remote (Dev.tc (⟨k0_dev22 d0, k0_dev22_lt d0 h3⟩ : Dev nD)) (eC d0 h3 i) (.dma (sndS 3 i))) (.dma (rcvS 3 i)) (oW.wordExact_slice rfl _ (k0_off2_wordsbf16 d0 h3 i)) (oW.wordExact_slice rfl _ (k0_off2_wordsbf16 d0 h3 i)) ⟨⟨rfl, Or.inl rfl⟩, trivial⟩)

/-- Its last three loops: wait for the other half, then for its own sends. -/
def end3 : PM F PUnit :=
  Prog.lift (.waitDma2 (rcvS 3 i) (eX d0 h3 i) (eX d0 h3 i) (oW.wordExact_slice rfl _ (k0_off3_wordsbf16 d0 h3 i)) (oW.wordExact_slice rfl _ (k0_off3_wordsbf16 d0 h3 i)))
def end4 : PM F PUnit :=
  Prog.lift (.waitDma2 (sndS 0 i) (aC i) (eC d0 h3 i) (aW.wordExact_slice rfl _ (lo_words i)) (oW.wordExact_slice rfl _ (k0_off2_wordsbf16 d0 h3 i)))
def end5 : PM F PUnit :=
  Prog.lift (.waitDma2 (sndS 3 i) (eC d0 h3 i) (eC d0 h3 i) (oW.wordExact_slice rfl _ (k0_off2_wordsbf16 d0 h3 i)) (oW.wordExact_slice rfl _ (k0_off2_wordsbf16 d0 h3 i)))
end End

section Mid
variable (d0 : Dev nD) (h4 : k0_cond4 d0 = 1#1) (i : Fin 16)

abbrev mR : Rect S4096x1024 := Rect.unit (s := S4096x1024) (k0_off4 d0 (w i)) S128x1024.size (k0_off4_inb d0 h4 i)
abbrev lR : Rect S2048x1024 := Rect.unit (s := S2048x1024) (lo i) S128x1024.size (lo_inb i)
abbrev mC : Memref sig .tc .vmem S128x1024 .bf16 := oM.slice (Rect.unit (s := S4096x1024) (k0_off5 d0 (w i)) S128x1024.size (k0_off5_inb d0 h4 i)) (fun _ => rfl)
abbrev mX : Memref sig .tc .vmem S128x1024 .bf16 := oM.slice (Rect.unit (s := S4096x1024) (k0_off6 d0 (w i)) S128x1024.size (k0_off6_inb d0 h4 i)) (fun _ => rfl)

/-- A middle device's loop, first part: wait for the end's chunk, add its own, send the sum to the other middle
    device, and wait for that device's sum and for its own send. -/
def mid1 : PM F PUnit := do
  Prog.lift (.waitDma2 (rcvS 0 i) (aC i) (aC i) (aW.wordExact_slice rfl _ (lo_words i)) (aW.wordExact_slice rfl _ (lo_words i)))
  let v : Vec F S128x1024 .bf16 ← Prog.lift (.load xM (mR d0 h4 i).toLoadRect (View.loadsAt_vmem h_S128x1024))
  let u : Vec F S128x1024 .bf16 ← Prog.lift (.load aM (lR i).toLoadRect (View.loadsAt_vmem h_S128x1024))
  let _t : Vec F S128x1024 .bf16 ← Prog.lift (.load oM (mR d0 h4 i).toLoadRect (View.loadsAt_vmem h_S128x1024))
  Prog.lift (.store oM (mR d0 h4 i) (k0_pay17 v u) Finset.univ (View.stores_vmem h_S128x1024 (oW.storeExact_slice rfl _ (k0_off4_packedbf16 d0 h4 i)) (fun _ => rfl)) (.inl rfl))
  Prog.lift (.enqueueDma (mC d0 h4 i) (.remote (Dev.tc (⟨k0_dev38 d0, k0_dev38_lt d0 h4⟩ : Dev nD)) (bC i) (.dma (sndS 1 i))) (.dma (rcvS 1 i)) (oW.wordExact_slice rfl _ (k0_off5_wordsbf16 d0 h4 i)) (bW.wordExact_slice rfl _ (lo_words i)) ⟨⟨rfl, Or.inl rfl⟩, trivial⟩)
  Prog.lift (.waitDma2 (rcvS 1 i) (mC d0 h4 i) (bC i) (oW.wordExact_slice rfl _ (k0_off5_wordsbf16 d0 h4 i)) (bW.wordExact_slice rfl _ (lo_words i)))
  Prog.lift (.waitDma2 (sndS 1 i) (bC i) (mC d0 h4 i) (bW.wordExact_slice rfl _ (lo_words i)) (oW.wordExact_slice rfl _ (k0_off5_wordsbf16 d0 h4 i)))

/-- Second part: add the other middle device's sum and send the total to the end and to the device of the other half. -/
def mid2 : PM F PUnit := do
  let v : Vec F S128x1024 .bf16 ← Prog.lift (.load oM (mR d0 h4 i).toLoadRect (View.loadsAt_vmem h_S128x1024))
  let u : Vec F S128x1024 .bf16 ← Prog.lift (.load bM (lR i).toLoadRect (View.loadsAt_vmem h_S128x1024))
  let _t : Vec F S128x1024 .bf16 ← Prog.lift (.load oM (mR d0 h4 i).toLoadRect (View.loadsAt_vmem h_S128x1024))
  Prog.lift (.store oM (mR d0 h4 i) (k0_pay17 v u) Finset.univ (View.stores_vmem h_S128x1024 (oW.storeExact_slice rfl _ (k0_off4_packedbf16 d0 h4 i)) (fun _ => rfl)) (.inl rfl))
  Prog.lift (.enqueueDma (mC d0 h4 i) (.remote (Dev.tc (⟨k0_dev39 d0, k0_dev39_lt d0 h4⟩ : Dev nD)) (mC d0 h4 i) (.dma (sndS 2 i))) (.dma (rcvS 2 i)) (oW.wordExact_slice rfl _ (k0_off5_wordsbf16 d0 h4 i)) (oW.wordExact_slice rfl _ (k0_off5_wordsbf16 d0 h4 i)) ⟨⟨rfl, Or.inl rfl⟩, trivial⟩)
  Prog.lift (.enqueueDma (mC d0 h4 i) (.remote (Dev.tc (⟨k0_dev40 d0, k0_dev40_lt d0 h4⟩ : Dev nD)) (mC d0 h4 i) (.dma (sndS 3 i))) (.dma (rcvS 3 i)) (oW.wordExact_slice rfl _ (k0_off5_wordsbf16 d0 h4 i)) (oW.wordExact_slice rfl _ (k0_off5_wordsbf16 d0 h4 i)) ⟨⟨rfl, Or.inl rfl⟩, trivial⟩)

def mid12 : PM F PUnit := do
  mid1 d0 h4 i
  mid2 d0 h4 i

def mid3 : PM F PUnit :=
  Prog.lift (.waitDma2 (rcvS 3 i) (mX d0 h4 i) (mX d0 h4 i) (oW.wordExact_slice rfl _ (k0_off6_wordsbf16 d0 h4 i)) (oW.wordExact_slice rfl _ (k0_off6_wordsbf16 d0 h4 i)))
/-- Wait for its own send of phase `ph`. -/
def mid4 (ph : Fin 4) : PM F PUnit :=
  Prog.lift (.waitDma2 (sndS ph i) (mC d0 h4 i) (mC d0 h4 i) (oW.wordExact_slice rfl _ (k0_off5_wordsbf16 d0 h4 i)) (oW.wordExact_slice rfl _ (k0_off5_wordsbf16 d0 h4 i)))
end Mid

/-- The sixteen chunks in order, and a loop over a list of them followed by `p`. -/
abbrev chunks : List (Fin 16) := [0, 1, 2, 3, 4, 5, 6, 7, 8, 9, 10, 11, 12, 13, 14, 15]

def loop (f : Fin 16 → PM F PUnit) : List (Fin 16) → PM F PUnit → PM F PUnit
  | [], p => p
  | i :: l, p => f i >>= fun _ => loop f l p

abbrev barS : Sem sig := (SemArray.scalar (sig.barrier 0 rfl) : Sems sig S_).sem

/-- The handshake at entry: signal the partners, wait for as many signals. -/
def head (d0 : Dev nD) : PM F PUnit := do
  if k0_h1 : k0_cond1 d0 = 1#1 then do
    semSignalWord (⟨k0_dev1 d0, k0_dev1_lt d0 k0_h1⟩ : Dev nD) barS 1#32
    semSignalWord (⟨k0_dev2 d0, k0_dev2_lt d0 k0_h1⟩ : Dev nD) barS 1#32
    semWaitWord barS 2#32
    pure ⟨⟩
  else pure ⟨⟩
  if k0_h2 : k0_cond2 d0 = 1#1 then do
    semSignalWord (⟨k0_dev3 d0, k0_dev3_lt d0 k0_h2⟩ : Dev nD) barS 1#32
    semSignalWord (⟨k0_dev4 d0, k0_dev4_lt d0 k0_h2⟩ : Dev nD) barS 1#32
    semSignalWord (⟨k0_dev5 d0, k0_dev5_lt d0 k0_h2⟩ : Dev nD) barS 1#32
    semWaitWord barS 3#32
    pure ⟨⟩
  else pure ⟨⟩

def endProg (d0 : Dev nD) (h3 : k0_cond3 d0 = 1#1) : PM F PUnit :=
  loop (end1 d0 h3) chunks <| loop (end2 d0 h3) chunks <| loop (end3 d0 h3) chunks <| loop (end4 d0 h3) chunks
    <| loop (end5 d0 h3) chunks (pure ⟨⟩)

def midProg (d0 : Dev nD) (h4 : k0_cond4 d0 = 1#1) : PM F PUnit :=
  loop (mid12 d0 h4) chunks <| loop (mid3 d0 h4) chunks <| loop (mid4 d0 h4 · 2) chunks <| loop (mid4 d0 h4 · 3) chunks (pure ⟨⟩)

def prog : PM F PUnit := do
  let d0 : Dev nD ← Prog.lift .deviceId
  head d0
  if k0_h3 : k0_cond3 d0 = 1#1 then endProg d0 k0_h3 else pure ⟨⟩
  if k0_h4 : k0_cond4 d0 = 1#1 then midProg d0 k0_h4 else pure ⟨⟩
  pure ⟨⟩

end Cert.ReduceProof

end
-- ==== Proof.Mesh.lean ====
/-
# The mesh: who talks to whom

A device is `16 * x + 4 * y + z`. The devices with `y = 0` or `y = 3` are the ENDS of their column, the others the
MIDDLES. `xp` is the device at the other `x`, `yp` the neighbour an end pairs with inside the column, `op` the device
across the middle of the column. `hf` is the half of the rows that the device's `x` names.
-/
module

public import proofs.«01_k».proof.Proof.Steps

@[expose] public section

noncomputable section

namespace Cert.ReduceProof

open Cert.KernelIdeal Cert.KernelIdeal.Gen
open Idealize.ShloMosaic Idealize.SL.Sem

set_option backward.proofsInPublic true in
def xp (c : Dev nD) : Dev nD := ⟨(c.val + 16) % 32, Nat.mod_lt _ (by decide)⟩
set_option backward.proofsInPublic true in
/-- `y ↦ y xor 1`. -/
def yp (c : Dev nD) : Dev nD := if (c.val / 4) % 2 = 0 then ⟨(c.val + 4) % 32, Nat.mod_lt _ (by decide)⟩ else ⟨(c.val + 28) % 32, Nat.mod_lt _ (by decide)⟩
set_option backward.proofsInPublic true in
/-- `y ↦ 3 - y`. -/
def op (c : Dev nD) : Dev nD := ⟨(16 * (c.val / 16) + 4 * (3 - (c.val / 4) % 4) + c.val % 4) % 32, Nat.mod_lt _ (by decide)⟩
set_option backward.proofsInPublic true in
def hf (c : Dev nD) : Fin 2 := ⟨(c.val / 16) % 2, Nat.mod_lt _ (by decide)⟩
/-- The other half. -/
def oh (c : Dev nD) : Fin 2 := hf (xp c)

/-- An end of its column. -/
abbrev IsEnd (c : Dev nD) : Prop := (c.val / 4) % 4 = 0 ∨ (c.val / 4) % 4 = 3

theorem xp_xp (c : Dev nD) : xp (xp c) = c := by revert c; decide
theorem yp_yp (c : Dev nD) : yp (yp c) = c := by revert c; decide
theorem op_op (c : Dev nD) : op (op c) = c := by revert c; decide
theorem xp_yp (c : Dev nD) : xp (yp c) = yp (xp c) := by revert c; decide
theorem xp_op (c : Dev nD) : xp (op c) = op (xp c) := by revert c; decide
theorem xp_ne_yp (c : Dev nD) : xp c ≠ yp c := by revert c; decide
theorem op_ne_yp (c : Dev nD) : op c ≠ yp c := by revert c; decide
theorem op_ne_xp (c : Dev nD) : op c ≠ xp c := by revert c; decide
theorem hf_yp (c : Dev nD) : hf (yp c) = hf c := by revert c; decide
theorem hf_op (c : Dev nD) : hf (op c) = hf c := by revert c; decide
theorem hf_xp (c : Dev nD) : hf (xp c) = oh c := rfl
theorem oh_xp (c : Dev nD) : oh (xp c) = hf c := by unfold oh; rw [xp_xp]
theorem oh_ne (c : Dev nD) : oh c ≠ hf c := by revert c; decide
theorem half_cases (c : Dev nD) (h : Fin 2) : h = hf c ∨ h = oh c := by revert c h; decide
theorem end_xp (c : Dev nD) : IsEnd (xp c) ↔ IsEnd c := by revert c; decide
theorem end_yp (c : Dev nD) : IsEnd (yp c) ↔ ¬ IsEnd c := by revert c; decide
theorem end_op (c : Dev nD) : IsEnd (op c) ↔ IsEnd c := by revert c; decide

theorem cond1_iff (c : Dev nD) : k0_cond1 c = 1#1 ↔ IsEnd c := by revert c; decide +kernel
theorem cond2_iff (c : Dev nD) : k0_cond2 c = 1#1 ↔ ¬ IsEnd c := by revert c; decide +kernel
theorem cond3_iff (c : Dev nD) : k0_cond3 c = 1#1 ↔ IsEnd c := by revert c; decide +kernel
theorem cond4_iff (c : Dev nD) : k0_cond4 c = 1#1 ↔ ¬ IsEnd c := by revert c; decide +kernel

/-- The middle device of the pair. -/
def mid (c : Dev nD) : Dev nD := if IsEnd c then yp c else c
theorem mid_of_end {c : Dev nD} (h : IsEnd c) : mid c = yp c := if_pos h
theorem mid_of_mid {c : Dev nD} (h : ¬ IsEnd c) : mid c = c := if_neg h
theorem mid_yp (c : Dev nD) : mid (yp c) = mid c := by revert c; decide
theorem mid_xp (c : Dev nD) : mid (xp c) = xp (mid c) := by revert c; decide

/-! The devices that the program's arithmetic names. -/

theorem dev1_eq (c : Dev nD) (h : k0_cond1 c = 1#1) : (⟨k0_dev1 c, k0_dev1_lt c h⟩ : Dev nD) = yp c := by
  apply Fin.ext; revert c; decide +kernel
theorem dev2_eq (c : Dev nD) (h : k0_cond1 c = 1#1) : (⟨k0_dev2 c, k0_dev2_lt c h⟩ : Dev nD) = xp c := by
  apply Fin.ext; revert c; decide +kernel
theorem dev3_eq (c : Dev nD) (h : k0_cond2 c = 1#1) : (⟨k0_dev3 c, k0_dev3_lt c h⟩ : Dev nD) = yp c := by
  apply Fin.ext; revert c; decide +kernel
theorem dev4_eq (c : Dev nD) (h : k0_cond2 c = 1#1) : (⟨k0_dev4 c, k0_dev4_lt c h⟩ : Dev nD) = op c := by
  apply Fin.ext; revert c; decide +kernel
theorem dev5_eq (c : Dev nD) (h : k0_cond2 c = 1#1) : (⟨k0_dev5 c, k0_dev5_lt c h⟩ : Dev nD) = xp c := by
  apply Fin.ext; revert c; decide +kernel
theorem dev6_eq (c : Dev nD) (h : k0_cond3 c = 1#1) : (⟨k0_dev6 c, k0_dev6_lt c h⟩ : Dev nD) = yp c := by
  apply Fin.ext; revert c; decide +kernel
theorem dev22_eq (c : Dev nD) (h : k0_cond3 c = 1#1) : (⟨k0_dev22 c, k0_dev22_lt c h⟩ : Dev nD) = xp c := by
  apply Fin.ext; revert c; decide +kernel
theorem dev38_eq (c : Dev nD) (h : k0_cond4 c = 1#1) : (⟨k0_dev38 c, k0_dev38_lt c h⟩ : Dev nD) = op c := by
  apply Fin.ext; revert c; decide +kernel
theorem dev39_eq (c : Dev nD) (h : k0_cond4 c = 1#1) : (⟨k0_dev39 c, k0_dev39_lt c h⟩ : Dev nD) = yp c := by
  apply Fin.ext; revert c; decide +kernel
theorem dev40_eq (c : Dev nD) (h : k0_cond4 c = 1#1) : (⟨k0_dev40 c, k0_dev40_lt c h⟩ : Dev nD) = xp c := by
  apply Fin.ext; revert c; decide +kernel

/-! The row offsets: chunk `i` of the device's half, and of the other half. -/

abbrev ro (h : Fin 2) (i : Fin 16) : Fin 2 → Nat := ![2048 * h.val + 128 * i.val, 0]

theorem hf_val (c : Dev nD) : (hf c).val = c.val / 16 := by revert c; decide
theorem oh_val (c : Dev nD) : 2048 * (oh c).val + 2048 * (c.val / 16) = 2048 := by revert c; decide

theorem off1_eq (c : Dev nD) (i : Fin 16) : k0_off1 c (w i) = ro (hf c) i := by rw [k0_off1_eq, ro, hf_val]
theorem off2_eq (c : Dev nD) (i : Fin 16) : k0_off2 c (w i) = ro (hf c) i := by rw [k0_off2_eq, ro, hf_val]
theorem off4_eq (c : Dev nD) (i : Fin 16) : k0_off4 c (w i) = ro (hf c) i := by rw [k0_off4_eq, ro, hf_val]
theorem off5_eq (c : Dev nD) (i : Fin 16) : k0_off5 c (w i) = ro (hf c) i := by rw [k0_off5_eq, ro, hf_val]
theorem off3_eq (c : Dev nD) (i : Fin 16) : k0_off3 c (w i) = ro (oh c) i := by
  have := oh_val c
  rw [k0_off3_eq, ro, show 128 * i.val + 2048 - 2048 * (c.val / 16) = 2048 * (oh c).val + 128 * i.val by omega]
theorem off6_eq (c : Dev nD) (i : Fin 16) : k0_off6 c (w i) = ro (oh c) i := by
  have := oh_val c
  rw [k0_off6_eq, ro, show 128 * i.val + 2048 - 2048 * (c.val / 16) = 2048 * (oh c).val + 128 * i.val by omega]

end Cert.ReduceProof

end
-- ==== Proof.Rows.lean ====
/-
# Chunks of the buffers

The result buffer's rows are 2 halves of 16 chunks of 128 rows; a landing buffer's rows are 16 chunks. This file names
the element sets of the chunks and says what the program's stores and copies leave there, as contents of whole buffers.
-/
module

public import proofs.«01_k».proof.Proof.Mesh
public import Idealize.ShloMosaic.Lib.Pipeline.Value

@[expose] public section

noncomputable section

namespace Cert.ReduceProof

open Cert.KernelIdeal Cert.KernelIdeal.Gen
open Idealize.ShloMosaic Idealize.SL.Sem

variable {F : FTy → Type} [FloatOps F]

/-- Contents of a 4096-row buffer and of a 2048-row buffer. -/
abbrev XB (F : FTy → Type) := S4096x1024.Idx → Elt F .bf16
abbrev LB (F : FTy → Type) := S2048x1024.Idx → Elt F .bf16

/-- The elements of chunk `i` of half `h`, and of chunk `i` of a landing buffer. -/
def oS (h : Fin 2) (i : Fin 16) : Finset S4096x1024.Idx := Finset.univ.filter fun j => (j 0).val / 128 = 16 * h.val + i.val
def lS (i : Fin 16) : Finset S2048x1024.Idx := Finset.univ.filter fun j => (j 0).val / 128 = i.val

theorem mem_oS {h : Fin 2} {i : Fin 16} {j : S4096x1024.Idx} : j ∈ oS h i ↔ (j 0).val / 128 = 16 * h.val + i.val := by simp [oS]
theorem mem_lS {i : Fin 16} {j : S2048x1024.Idx} : j ∈ lS i ↔ (j 0).val / 128 = i.val := by simp [lS]

/-- The element of a landing buffer, found in half `h` of a 4096-row buffer. -/
def shift (h : Fin 2) (k : S2048x1024.Idx) : S4096x1024.Idx :=
  Fin.cons (α := fun a => Fin (S4096x1024.size a)) ⟨2048 * h.val + (k 0).val, by have := (k 0).isLt; change _ < 2048 at this; change _ < 4096; omega⟩
    (Fin.cons (α := fun a => Fin (S4096x1024.size (Fin.succ a))) (k 1) (fun a => a.elim0))

theorem shift_0 (h : Fin 2) (k : S2048x1024.Idx) : (shift h k 0).val = 2048 * h.val + (k 0).val := rfl
theorem shift_1 (h : Fin 2) (k : S2048x1024.Idx) : (shift h k 1).val = (k 1).val := rfl

theorem oS_disjoint {h h' : Fin 2} {i i' : Fin 16} (hne : (h, i) ≠ (h', i')) : Disjoint (oS h i) (oS h' i') := by
  rw [Finset.disjoint_left]; intro j hj hj'
  rw [mem_oS] at hj hj'
  apply hne
  have : h = h' := Fin.ext (by omega)
  subst this
  exact Prod.ext rfl (Fin.ext (by simp only; omega))
theorem lS_disjoint {i i' : Fin 16} (hne : i ≠ i') : Disjoint (lS i) (lS i') := by
  rw [Finset.disjoint_left]; intro j hj hj'
  rw [mem_lS] at hj hj'
  exact hne (Fin.ext (by omega))
theorem lS_cover : (Finset.univ : Finset S2048x1024.Idx) = Finset.univ.biUnion lS := by
  ext j; simp only [Finset.mem_univ, Finset.mem_biUnion, true_and, true_iff]
  have := (j 0).isLt; change _ < 2048 at this
  exact ⟨⟨(j 0).val / 128, by omega⟩, mem_lS.mpr rfl⟩
/-- The elements of a half. -/
def hS (h : Fin 2) : Finset S4096x1024.Idx := Finset.univ.biUnion (oS h)
theorem mem_hS {h : Fin 2} {j : S4096x1024.Idx} : j ∈ hS h ↔ (j 0).val / 2048 = h.val := by
  have := (j 0).isLt; change _ < 4096 at this
  simp only [hS, Finset.mem_biUnion, Finset.mem_univ, true_and]
  constructor
  · rintro ⟨i, hi⟩; rw [mem_oS] at hi; omega
  · intro hh; exact ⟨⟨(j 0).val / 128 - 16 * h.val, by omega⟩, mem_oS.mpr (by simp only; omega)⟩
theorem hS_disjoint {h h' : Fin 2} (hne : h ≠ h') : Disjoint (hS h) (hS h') := by
  rw [Finset.disjoint_left]; intro j hj hj'
  rw [mem_hS] at hj hj'
  exact hne (Fin.ext (by omega))
theorem hS_cover (c : Dev nD) : (Finset.univ : Finset S4096x1024.Idx) = hS (hf c) ∪ hS (oh c) := by
  ext j
  have := (j 0).isLt; change _ < 4096 at this
  simp only [Finset.mem_univ, Finset.mem_union, true_iff]
  rcases half_cases c ⟨(j 0).val / 2048, by omega⟩ with h | h
  · exact Or.inl (mem_hS.mpr (congrArg Fin.val h))
  · exact Or.inr (mem_hS.mpr (congrArg Fin.val h))

theorem lt2 (P : Fin 2 → Prop) : (∀ a, P a) ↔ P 0 ∧ P 1 := Fin.forall_fin_two

section Sets
variable {off : Fin 2 → Nat} (inb : ∀ a, off a + S128x1024.size a ≤ S4096x1024.size a) {h : Fin 2} {i : Fin 16} (e : off = ro h i)
include e

theorem rect_set : (Rect.unit (s := S4096x1024) off S128x1024.size inb).set = oS h i := by
  subst e; ext j
  rw [Rect.mem_set_unit, mem_oS, Fin.forall_fin_two]
  have h1 : (j 1).val < 1024 := (j 1).isLt
  show (2048 * h.val + 128 * i.val ≤ (j 0).val ∧ (j 0).val < 2048 * h.val + 128 * i.val + 128) ∧ (0 ≤ (j 1).val ∧ (j 1).val < 0 + 1024) ↔ _
  omega

theorem rect_emb_0 (x : S128x1024.Idx) : ((Rect.unit (s := S4096x1024) off S128x1024.size inb).emb x 0).val = 2048 * h.val + 128 * i.val + (x 0).val := by
  subst e
  show (2048 * h.val + 128 * i.val) + 1 * (x 0).val = _
  omega
theorem rect_emb_1 (x : S128x1024.Idx) : ((Rect.unit (s := S4096x1024) off S128x1024.size inb).emb x 1).val = (x 1).val := by
  subst e
  show 0 + 1 * (x 1).val = _
  omega
end Sets

abbrev rO (off : Fin 2 → Nat) (inb : ∀ a, off a + S128x1024.size a ≤ S4096x1024.size a) : Rect S4096x1024 := Rect.unit (s := S4096x1024) off S128x1024.size inb

theorem lrect_set (i : Fin 16) : (Rect.unit (s := S2048x1024) (lo i) S128x1024.size (lo_inb i)).set = lS i := by
  ext j
  rw [Rect.mem_set_unit, mem_lS, Fin.forall_fin_two]
  have h1 : (j 1).val < 1024 := (j 1).isLt
  show (128 * i.val ≤ (j 0).val ∧ (j 0).val < 128 * i.val + 128) ∧ (0 ≤ (j 1).val ∧ (j 1).val < 0 + 1024) ↔ _
  omega
theorem lrect_emb_0 (i : Fin 16) (x : S128x1024.Idx) : ((Rect.unit (s := S2048x1024) (lo i) S128x1024.size (lo_inb i)).emb x 0).val = 128 * i.val + (x 0).val := by
  show 128 * i.val + 1 * (x 0).val = _
  omega
theorem lrect_emb_1 (i : Fin 16) (x : S128x1024.Idx) : ((Rect.unit (s := S2048x1024) (lo i) S128x1024.size (lo_inb i)).emb x 1).val = (x 1).val := by
  show 0 + 1 * (x 1).val = _
  omega

theorem idx_ext {j j' : S4096x1024.Idx} (h0 : (j 0).val = (j' 0).val) (h1 : (j 1).val = (j' 1).val) : j = j' := by
  funext a; apply Fin.ext
  rcases a with ⟨_ | _ | a, ha⟩
  · exact h0
  · exact h1
  · exact absurd ha (by change ¬ a + 2 < 2; omega)

theorem rect_shift {off : Fin 2 → Nat} (inb : ∀ a, off a + S128x1024.size a ≤ S4096x1024.size a) {h : Fin 2} {i : Fin 16} (e : off = ro h i) (x : S128x1024.Idx) :
    shift h ((Rect.unit (s := S2048x1024) (lo i) S128x1024.size (lo_inb i)).emb x) = (Rect.unit (s := S4096x1024) off S128x1024.size inb).emb x := by
  apply idx_ext
  · rw [shift_0, rect_emb_0 inb e, lrect_emb_0]; omega
  · rw [shift_1, rect_emb_1 inb e, lrect_emb_1]

/-! ## What the operations leave -/

section Contents
variable {off : Fin 2 → Nat} (inb : ∀ a, off a + S128x1024.size a ≤ S4096x1024.size a)
  {h : Fin 2} {i : Fin 16} (e : off = ro h i)

omit [FloatOps F] in
include e in
theorem exists_emb {j : S4096x1024.Idx} (hj : j ∈ oS h i) : ∃ x : S128x1024.Idx, (rO off inb).emb x = j := by
  rw [← rect_set inb e, ← Rect.map_emb_univ] at hj
  obtain ⟨x, -, hx⟩ := Finset.mem_map.mp hj
  exact ⟨x, hx⟩

omit [FloatOps F] in
theorem exists_lemb {k : S2048x1024.Idx} (hk : k ∈ lS i) : ∃ x : S128x1024.Idx, (Rect.unit (s := S2048x1024) (lo i) S128x1024.size (lo_inb i)).emb x = k := by
  rw [← lrect_set, ← Rect.map_emb_univ] at hk
  obtain ⟨x, -, hx⟩ := Finset.mem_map.mp hk
  exact ⟨x, hx⟩

include e in
/-- Storing the chunk of `x` that was loaded leaves `x` on the chunk. -/
theorem store_copy (f g : XB F) : ∀ j ∈ oS h i,
    ((oM.access (rO off inb) : View sig .tc _ _ _).write (Elt F) f (k0_pay1 (F := F) (xM.view.readAt (Elt F) (rO off inb).toLoadRect g)) Finset.univ : XB F) j = g j := by
  intro j hj
  obtain ⟨x, rfl⟩ := exists_emb inb e hj
  refine (View.write_emb_of_mem (v := (oM.access (rO off inb) : View sig .tc _ _ _)) f _ (Finset.mem_univ x)).trans ?_
  unfold k0_pay1; rw [shapeCast_self]; rfl

include e in
/-- Storing the sum of a chunk of a 4096-row buffer and of the landed chunk leaves the elementwise sum. -/
theorem store_sum_x (f f₁ g : XB F) : ∀ j ∈ oS h i,
    ((oM.access (rO off inb) : View sig .tc _ _ _).write (Elt F) f (k0_pay17 (F := F) (xM.view.readAt (Elt F) (rO off inb).toLoadRect f₁)
      (aM.view.readAt (Elt F) (lR i).toLoadRect (fun k => g (shift h k)))) Finset.univ : XB F) j = FloatOps.addf (F := F) (φ := .bf16) (f₁ j) (g j) := by
  intro j hj
  obtain ⟨x, rfl⟩ := exists_emb inb e hj
  refine (View.write_emb_of_mem (v := (oM.access (rO off inb) : View sig .tc _ _ _)) f _ (Finset.mem_univ x)).trans ?_
  unfold k0_pay17; rw [shapeCast_self]
  exact congrArg (fun y => FloatOps.addf (F := F) (φ := .bf16) (f₁ ((rO off inb).emb x)) (g y)) (rect_shift inb e x)

include e in
theorem store_sum_o (f f₁ g : XB F) : ∀ j ∈ oS h i,
    ((oM.access (rO off inb) : View sig .tc _ _ _).write (Elt F) f (k0_pay17 (F := F) (oM.view.readAt (Elt F) (rO off inb).toLoadRect f₁)
      (bM.view.readAt (Elt F) (lR i).toLoadRect (fun k => g (shift h k)))) Finset.univ : XB F) j = FloatOps.addf (F := F) (φ := .bf16) (f₁ j) (g j) := by
  intro j hj
  obtain ⟨x, rfl⟩ := exists_emb inb e hj
  refine (View.write_emb_of_mem (v := (oM.access (rO off inb) : View sig .tc _ _ _)) f _ (Finset.mem_univ x)).trans ?_
  unfold k0_pay17; rw [shapeCast_self]
  exact congrArg (fun y => FloatOps.addf (F := F) (φ := .bf16) (f₁ ((rO off inb).emb x)) (g y)) (rect_shift inb e x)

omit [FloatOps F] in
include e in
/-- A chunk copied into a landing buffer: its contents there are the source's, shifted. -/
theorem land_a (fd : LB F) (f : XB F) : ∀ k ∈ lS i,
    ((aC i).view.write (Elt F) fd ((oM.slice (rO off inb) (fun _ => rfl)).view.read (Elt F) f) Finset.univ : LB F) k = f (shift h k) := by
  intro k hk
  obtain ⟨x, rfl⟩ := exists_lemb hk
  refine (View.write_emb_of_mem (v := (aC i).view) fd _ (Finset.mem_univ x)).trans ?_
  rw [rect_shift inb e x]; rfl

omit [FloatOps F] in
include e in
theorem land_b (fd : LB F) (f : XB F) : ∀ k ∈ lS i,
    ((bC i).view.write (Elt F) fd ((oM.slice (rO off inb) (fun _ => rfl)).view.read (Elt F) f) Finset.univ : LB F) k = f (shift h k) := by
  intro k hk
  obtain ⟨x, rfl⟩ := exists_lemb hk
  refine (View.write_emb_of_mem (v := (bC i).view) fd _ (Finset.mem_univ x)).trans ?_
  rw [rect_shift inb e x]; rfl

omit [FloatOps F] in
include e in
/-- A chunk copied to the same chunk of another device's result buffer. -/
theorem land_o (fd f : XB F) : ∀ j ∈ oS h i,
    ((oM.slice (rO off inb) (fun _ => rfl)).view.write (Elt F) fd ((oM.slice (rO off inb) (fun _ => rfl)).view.read (Elt F) f) Finset.univ : XB F) j = f j := by
  intro j hj
  obtain ⟨x, rfl⟩ := exists_emb inb e hj
  exact (View.write_emb_of_mem (v := (oM.slice (rO off inb) (fun _ => rfl)).view) fd _ (Finset.mem_univ x)).trans rfl

omit [FloatOps F] in
include e in
theorem slice_set : (oM.slice (rO off inb) (fun _ => rfl)).view.set = oS h i :=
  (View.set_slice_whole (κ := .tc) cc0_stg1_0 (rO off inb)).trans (rect_set inb e)
omit [FloatOps F] in
include e in
theorem access_set : (oM.access (rO off inb) : View sig .tc _ _ _).setOn Finset.univ = oS h i :=
  (View.set_slice_whole (κ := .tc) cc0_stg1_0 (rO off inb)).trans (rect_set inb e)
omit [FloatOps F] in
include e in
theorem load_set : oM.view.setOn (rO off inb).toLoadRect.set = oS h i :=
  (View.set_slice (v := oM.view) (rO off inb)).symm.trans ((View.set_slice_whole (κ := .tc) cc0_stg1_0 (rO off inb)).trans (rect_set inb e))
end Contents

omit [FloatOps F] in
theorem aC_set (i : Fin 16) : (aC i).view.set = lS i :=
  (View.set_slice_whole (κ := .tc) cc0_scratch0 (lR i)).trans (lrect_set i)
omit [FloatOps F] in
theorem bC_set (i : Fin 16) : (bC i).view.set = lS i :=
  (View.set_slice_whole (κ := .tc) cc0_scratch1 (lR i)).trans (lrect_set i)
omit [FloatOps F] in
theorem a_load_set (i : Fin 16) : aM.view.setOn (lR i).toLoadRect.set = lS i :=
  (View.set_slice (v := aM.view) (lR i)).symm.trans ((View.set_slice_whole (κ := .tc) cc0_scratch0 (lR i)).trans (lrect_set i))
omit [FloatOps F] in
theorem b_load_set (i : Fin 16) : bM.view.setOn (lR i).toLoadRect.set = lS i :=
  (View.set_slice (v := bM.view) (lR i)).symm.trans ((View.set_slice_whole (κ := .tc) cc0_scratch1 (lR i)).trans (lrect_set i))

end Cert.ReduceProof

end
-- ==== Proof.Sched.lean ====
/-
# The schedule of the hand-overs

Every semaphore cell of a device is used for one round.

* The barrier cell of `c`. Duty 0 is paid by `yp c`, duty 1 by `xp c`, duty 2 (middles only) by `op c`. To an end, `yp c`
  hands its first landing buffer. `xp c` hands the rows of `c`'s half of its result buffer. `op c` hands its second
  landing buffer.
* Phase 0: an end sends its chunk of `x` to the first landing buffer of `yp`. The receive cell hands over the landed chunk
  and the end's own chunk of its result buffer, where the total is written later.
* Phase 1: a middle sends its sum to the second landing buffer of `op`. The send cell gives the chunk back.
* Phase 2: a middle sends the total to the result buffer of `yp`, and phase 3: every device sends it to the result buffer of
  `xp`. A middle lends one half of its chunk to either send.

A wait is for a cell that lies lower than everything its device still has to pay: barrier, then phase 0, then phase 1 chunk
by chunk, then phase 2, then phase 3.
-/
module

public import proofs.«01_k».proof.Proof.Rows
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Cells -/

/-- The table cells: side (0 send, 1 receive), phase, chunk. With the barrier cell: `none`. -/
abbrev OC : Type := Fin 2 × Fin 4 × Fin 16
abbrev KC : Type := Option OC

def osem : OC → SemLoc sig
  | (0, ph, i) => .dma (sndS ph i)
  | (1, ph, i) => .dma (rcvS ph i)
def csem : KC → SemLoc sig
  | none => .reg barS
  | some k => osem k
abbrev kcell (ck : Dev nD × KC) : GSem nD τ sig := ((ck.1 : Thread nD τ), csem ck.2)

theorem snd_val (ph : Fin 4) (i : Fin 16) : (sndS ph i).val = (sndS 0 0).val + 16 * ph.val + i.val := by revert ph i; decide +kernel
theorem rcv_val (ph : Fin 4) (i : Fin 16) : (rcvS ph i).val = (sndS 0 0).val + 64 + 16 * ph.val + i.val := by revert ph i; decide +kernel

theorem osem_injective : Function.Injective osem := by
  rintro ⟨s, ph, i⟩ ⟨s', ph', i'⟩ h
  have hv : ∀ (s : Fin 2) (ph : Fin 4) (i : Fin 16), ∃ d : DmaSem sig, osem (s, ph, i) = .dma d ∧ d.val = (sndS 0 0).val + 64 * s.val + 16 * ph.val + i.val := by
    intro s ph i
    rcases s with ⟨_ | _ | s, hs⟩
    · exact ⟨sndS ph i, rfl, snd_val ph i⟩
    · exact ⟨rcvS ph i, rfl, rcv_val ph i⟩
    · omega
  obtain ⟨d, hd, hdv⟩ := hv s ph i
  obtain ⟨d', hd', hdv'⟩ := hv s' ph' i'
  rw [hd, hd'] at h
  have h2 : d = d' := by injection h
  have h3 := congrArg Fin.val h2
  rw [hdv, hdv'] at h3
  have hp := ph.isLt; have hp' := ph'.isLt; have hi := i.isLt; have hi' := i'.isLt
  have e1 : s = s' := Fin.ext (by omega)
  have e2 : ph = ph' := Fin.ext (by omega)
  have e3 : i = i' := Fin.ext (by omega)
  rw [e1, e2, e3]

theorem osem_dma (k : OC) : ∃ d : DmaSem sig, osem k = .dma d := by
  obtain ⟨s, ph, i⟩ := k
  rcases s with ⟨_ | _ | s, hs⟩
  · exact ⟨_, rfl⟩
  · exact ⟨_, rfl⟩
  · omega
theorem osem_ne_bar (k : OC) : osem k ≠ .reg barS := by
  obtain ⟨d, hd⟩ := osem_dma k; rw [hd]; exact fun h => by cases h

theorem csem_injective : Function.Injective csem := by
  intro k k' h
  rcases k with _ | k <;> rcases k' with _ | k'
  · rfl
  · exact absurd h.symm (osem_ne_bar k')
  · exact absurd h (osem_ne_bar k)
  · exact congrArg some (osem_injective h)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

open Classical in
/-- Which cell a semaphore is, if it is one of the kernel's. -/
def dec (s : SemLoc sig) : Option KC := if h : ∃ k, csem k = s then some h.choose else none
theorem dec_csem (k : KC) : dec (csem k) = some k := by
  have h : ∃ k', csem k' = csem k := ⟨k, rfl⟩
  unfold dec; rw [dif_pos h]; exact congrArg some (csem_injective h.choose_spec)
theorem dec_none {s : SemLoc sig} (h : ∀ k, csem k ≠ s) : dec s = none := by
  unfold dec; rw [dif_neg (fun ⟨k, hk⟩ => h k hk)]

/-- The credit of one chunk. -/
abbrev N : ℕ := (aC 0).view.dmaCredit
theorem N_pos : 0 < N := View.dmaCredit_pos _ (by decide)

/-! ## Contents -/

/-- The staged block of `x`. -/
def xs (c : Dev nD) : XB F := (win0_0.blk (0 : Fin 1)).view.read (Elt F) ((s₀ m ρ).mem ((c : Thread nD τ).loc main_arg0))
/-- A middle's sum of its own and its end's block. -/
def Sm (c : Dev nD) : XB F := fun j => FloatOps.addf (F := F) (φ := .bf16) (xs m ρ c j) (xs m ρ (yp c) j)
/-- A middle's total. -/
def Tm (c : Dev nD) : XB F := fun j => FloatOps.addf (F := F) (φ := .bf16) (Sm m ρ c j) (Sm m ρ (op c) j)
/-- What lands in the two landing buffers. -/
def Am (c : Dev nD) : LB F := fun k => xs m ρ (yp c) (shift (hf c) k)
def Bm (c : Dev nD) : LB F := fun k => Sm m ρ (op c) (shift (hf c) k)
open Classical in
/-- The result of a device: its half from its own column, the other half from the column at the other `x`. -/
def Gm (c : Dev nD) : XB F := fun j => if j ∈ hS (hf c) then Tm m ρ (mid c) j else Tm m ρ (xp (mid c)) j

theorem Gm_yp (c : Dev nD) : Gm m ρ (yp c) = Gm m ρ c := by unfold Gm; rw [mid_yp, hf_yp]
theorem Gm_xp (c : Dev nD) : Gm m ρ (xp c) = Gm m ρ c := by
  funext j; unfold Gm; rw [mid_xp, hf_xp, xp_xp]
  by_cases h : j ∈ hS (hf c)
  · rw [if_pos h, if_neg fun h' => Finset.disjoint_left.mp (hS_disjoint (oh_ne c)) h' h]
  · have h' : j ∈ hS (oh c) := by
      have := Finset.mem_univ j; rw [hS_cover c, Finset.mem_union] at this; exact this.resolve_left h
    rw [if_pos h', if_neg h]
theorem oS_sub (h : Fin 2) (i : Fin 16) : oS h i ⊆ hS h := fun _ hj => Finset.mem_biUnion.mpr ⟨i, Finset.mem_univ _, hj⟩
theorem Gm_mid {c : Dev nD} (hc : ¬ IsEnd c) {j : S4096x1024.Idx} {i : Fin 16} (hj : j ∈ oS (hf c) i) : Gm m ρ c j = Tm m ρ c j := by
  unfold Gm; rw [if_pos (oS_sub _ _ hj), mid_of_mid hc]

/-! ## What is held -/

/-- A chunk of the result buffer of `c`, a chunk of its two landing buffers, the wholes of these, a half of the result
    buffer. -/
def oPts (c : Dev nD) (h : Fin 2) (i : Fin 16) (q : PosShare TreeShare) (f : XB F) : sProp 𝕄 :=
  oM.view.loc (c : Thread nD τ) ↦[oS h i]{q} f
def aPts (c : Dev nD) (i : Fin 16) (f : LB F) : sProp 𝕄 := aM.view.loc (c : Thread nD τ) ↦[lS i]{fullShare} f
def bPts (c : Dev nD) (i : Fin 16) (f : LB F) : sProp 𝕄 := bM.view.loc (c : Thread nD τ) ↦[lS i]{fullShare} f
def aAll (c : Dev nD) : sProp 𝕄 := iprop(∃ f : LB F, aM.view.loc (c : Thread nD τ) ↦[Finset.univ]{fullShare} f)
def bAll (c : Dev nD) : sProp 𝕄 := iprop(∃ f : LB F, bM.view.loc (c : Thread nD τ) ↦[Finset.univ]{fullShare} f)
def oHalf (c : Dev nD) (h : Fin 2) : sProp 𝕄 := iprop(∃ f : XB F, oM.view.loc (c : Thread nD τ) ↦[hS h]{fullShare} f)

section St
omit [FloatOps F]
instance oPts_storable (c : Dev nD) (h i q f) : BI.Storable (upEmb : UEmb _ 𝕄) (oPts (F := F) c h i q f) := by unfold oPts; infer_instance
instance aPts_storable (c : Dev nD) (i f) : BI.Storable (upEmb : UEmb _ 𝕄) (aPts (F := F) c i f) := by unfold aPts; infer_instance
instance bPts_storable (c : Dev nD) (i f) : BI.Storable (upEmb : UEmb _ 𝕄) (bPts (F := F) c i f) := by unfold bPts; infer_instance
instance aAll_storable (c : Dev nD) : BI.Storable (upEmb : UEmb _ 𝕄) (aAll (F := F) c) := by unfold aAll; infer_instance
instance bAll_storable (c : Dev nD) : BI.Storable (upEmb : UEmb _ 𝕄) (bAll (F := F) c) := by unfold bAll; infer_instance
instance oHalf_storable (c : Dev nD) (h) : BI.Storable (upEmb : UEmb _ 𝕄) (oHalf (F := F) c h) := by unfold oHalf; infer_instance
end St

/-! ## The schedule -/

/-- The phases a device receives in, and sends in. -/
def rUse (c : Dev nD) : Fin 4 → Prop
  | 0 => ¬ IsEnd c | 1 => ¬ IsEnd c | 2 => IsEnd c | 3 => True
def sUse (c : Dev nD) : Fin 4 → Prop
  | 0 => IsEnd c | 1 => ¬ IsEnd c | 2 => ¬ IsEnd c | 3 => True
def used (c : Dev nD) : OC → Prop
  | (0, ph, _) => sUse c ph
  | (1, ph, _) => rUse c ph

open Classical in
def duts (c : Dev nD) : KC → Finset (Fin 3)
  | none => if IsEnd c then {0, 1} else Finset.univ
  | some k => if used c k then {0} else ∅

/-- The share of its total that a device lends to its last send. -/
def shX (c : Dev nD) : PosShare TreeShare := if IsEnd c then fullShare else fullShare.right

def payB (c : Dev nD) : Fin 3 → sProp 𝕄
  | 0 => if IsEnd c then aAll (yp c) else iprop(emp)
  | 1 => oHalf (xp c) (hf c)
  | 2 => bAll (op c)
def payS (c : Dev nD) (i : Fin 16) : Fin 4 → sProp 𝕄
  | 0 => iprop(emp)
  | 1 => oPts c (hf c) i fullShare (Sm m ρ c)
  | 2 => oPts c (hf c) i fullShare.left (Gm m ρ c)
  | 3 => oPts c (hf c) i (shX c) (Gm m ρ c)
def payR (c : Dev nD) (i : Fin 16) : Fin 4 → sProp 𝕄
  | 0 => iprop(aPts c i (Am m ρ c) ∗ oPts (yp c) (hf c) i fullShare (xs m ρ (yp c)))
  | 1 => bPts c i (Bm m ρ c)
  | 2 => oPts c (hf c) i fullShare (Gm m ρ c)
  | 3 => oPts c (oh c) i fullShare (Gm m ρ c)
def pay (c : Dev nD) (d : Fin 3) : KC → sProp 𝕄
  | none => payB c d
  | some (0, ph, i) => payS m ρ c i ph
  | some (1, ph, i) => payR m ρ c i ph

omit [FloatOps F] in
instance payB_storable (c : Dev nD) (d) : BI.Storable (upEmb : UEmb _ 𝕄) (payB (F := F) c d) := by
  unfold payB; split <;> (try split) <;> infer_instance
instance payS_storable (c : Dev nD) (i ph) : BI.Storable (upEmb : UEmb _ 𝕄) (payS (F := F) m ρ c i ph) := by
  unfold payS; split <;> infer_instance
instance payR_storable (c : Dev nD) (i ph) : BI.Storable (upEmb : UEmb _ 𝕄) (payR (F := F) m ρ c i ph) := by
  unfold payR; split <;> infer_instance
instance pay_storable (c : Dev nD) (d k) : BI.Storable (upEmb : UEmb _ 𝕄) (pay (F := F) m ρ c d k) := by
  unfold pay; split <;> infer_instance

def amt : KC → ℕ
  | none => 1
  | some _ => N
theorem amt_pos (k : KC) : 0 < amt k := by rcases k with _ | k; exacts [Nat.one_pos, N_pos]

/-- The schedule: round 0 of every cell, nothing after it. -/
def Rd : Rounds.Schedule (GSem nD τ sig) (Fin 3) 𝕄 where
  duties g r := if r = 0 ∧ g.1.2 = .tc then (match dec g.2 with | some k => duts g.1.1 k | none => ∅) else ∅
  unitless _ := False
  amount g _ _ := match dec g.2 with | some k => amt k | none => 1
  payload g _ d := match dec g.2 with | some k => pay m ρ g.1.1 d k | none => iprop(emp)
  amount_pos g _ _ _ := by
    show 0 < (match dec g.2 with | some k => amt k | none => 1)
    split
    · exact amt_pos _
    · exact Nat.one_pos

instance Rd_storable (g : GSem nD τ sig) (r : ℕ) (d : Fin 3) : BI.Storable (upEmb : UEmb _ 𝕄) ((Rd (F := F) m ρ).payload g r d) := by
  show BI.Storable upEmb (match dec g.2 with | some k => pay m ρ g.1.1 d k | none => iprop(emp))
  split <;> infer_instance

section Sched
variable (c : Dev nD) (k : KC)

theorem duties_eq : (Rd (F := F) m ρ).duties (kcell (c, k)) 0 = duts c k := by
  dsimp only [Rd]; rw [if_pos ⟨rfl, rfl⟩]
  show (match dec (csem k) with | some k => duts c k | none => ∅) = _
  rw [dec_csem]
theorem duties_later (g : GSem nD τ sig) : ∀ r, 1 ≤ r → (Rd (F := F) m ρ).duties g r = ∅ :=
  fun r hr => by dsimp only [Rd]; rw [if_neg fun h => by omega]
theorem amount_eq (r : ℕ) (d : Fin 3) : (Rd (F := F) m ρ).amount (kcell (c, k)) r d = amt k := by
  show (match dec (csem k) with | some k => amt k | none => 1) = _
  rw [dec_csem]
theorem payload_eq (r : ℕ) (d : Fin 3) : (Rd (F := F) m ρ).payload (kcell (c, k)) r d = pay m ρ c d k := by
  show (match dec (csem k) with | some k => pay m ρ c d k | none => iprop(emp)) = _
  rw [dec_csem]

theorem expect_eq : (Rd (F := F) m ρ).expect (kcell (c, k)) 0 = (duts c k).card * amt k := by
  unfold Schedule.expect Schedule.amountOf
  rw [duties_eq, Finset.sum_congr rfl fun d _ => amount_eq m ρ c k 0 d, Finset.sum_const, smul_eq_mul]
theorem rest_eq : bigSep ((Rd (F := F) m ρ).duties (kcell (c, k)) 0 \ ∅) (fun d => (Rd (F := F) m ρ).payload (kcell (c, k)) 0 d)
    = bigSep (duts c k) (fun d => pay m ρ c d k) := by
  rw [Finset.sdiff_empty, duties_eq]; exact bigSep_congr fun d _ => payload_eq m ρ c k 0 d
end Sched

theorem duts_used {c : Dev nD} {k : OC} (h : used c k) : duts c (some k) = {0} := if_pos h
theorem duts_unused {c : Dev nD} {k : OC} (h : ¬ used c k) : duts c (some k) = ∅ := if_neg h

/-! ## Levels and what is owed -/

def lvK : KC → ℕ
  | none => 1
  | some (0, _, _) => 0
  | some (1, 0, _) => 2
  | some (1, 1, i) => 3 + i.val
  | some (1, 2, _) => 30
  | some (1, 3, _) => 31

def L (g : GSem nD τ sig) : Finset Unit := if g.1.2 = .tc then {()} else ∅
def lv (g : GSem nD τ sig) (_ : Unit) : ℕ := match dec g.2 with | some k => lvK k | none => 0
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : KC) : lv (kcell (c, k)) () = lvK k := by
  show (match dec (csem k) with | some k => lvK k | none => 0) = _
  rw [dec_csem]

/-- What a list of cells to pay amounts to, the head the first to be paid. -/
def OL : List (Dev nD × KC) → CellTallies nD τ sig Unit
  | [] => 0
  | p :: l => OL l + tallyAt (kcell p) () (amt p.2)

theorem OL_pos {l : List (Dev nD × KC)} {g : GSem nD τ sig} {u : Unit} (h : 0 < OL l g u) : ∃ p ∈ l, g = kcell p := by
  induction l with
  | nil => exact absurd h (by simp [OL])
  | cons p l ih =>
    unfold OL at h
    rw [Pi.add_apply, Finsupp.add_apply, tallyAt_apply] at h
    by_cases hp : g = kcell p
    · exact ⟨p, List.mem_cons_self, hp⟩
    · rw [if_neg (fun h' => hp h'.1), Nat.add_zero] at h
      obtain ⟨p', hp', e⟩ := ih h
      exact ⟨p', List.mem_cons_of_mem _ hp', e⟩

theorem OL_mem {l : List (Dev nD × KC)} {p : Dev nD × KC} (h : p ∈ l) : amt p.2 ≤ OL l (kcell p) () := by
  induction l with
  | nil => exact absurd h (by simp)
  | cons p' l ih =>
    unfold OL
    rw [Pi.add_apply, Finsupp.add_apply, tallyAt_apply]
    rcases List.mem_cons.mp h with rfl | h
    · rw [if_pos ⟨rfl, rfl⟩]; omega
    · have := ih h; omega

/-- What the chunks of a loop leave to be paid. -/
def owE (c : Dev nD) (l l' : List (Fin 16)) : List (Dev nD × KC) :=
  l.map (fun i => (yp c, some (1, 0, i))) ++ l'.map (fun i => (xp c, some (1, 3, i)))
def owM (c : Dev nD) (l : List (Fin 16)) : List (Dev nD × KC) :=
  l.flatMap fun i => [(op c, some (1, 1, i)), (yp c, some (1, 2, i)), (xp c, some (1, 3, i))]
def owed₀ (c : Dev nD) : List (Dev nD × KC) :=
  if IsEnd c then (yp c, none) :: (xp c, none) :: owE c chunks chunks
  else (yp c, none) :: (op c, none) :: (xp c, none) :: owM c chunks
def O₀ (c : Dev nD) : CellTallies nD τ sig Unit := OL (owed₀ c)

theorem owE_lv {c : Dev nD} {l l' : List (Fin 16)} : ∀ p ∈ owE c l l', 1 < lvK p.2 := by
  intro p hp
  rcases List.mem_append.mp hp with h | h <;> obtain ⟨i, -, rfl⟩ := List.mem_map.mp h
  · show 1 < 2; decide
  · show 1 < 31; decide
theorem owM_lv {c : Dev nD} {l : List (Fin 16)} {b : ℕ} (hb : b < 30) (h : ∀ i ∈ l, b < 3 + i.val) : ∀ p ∈ owM c l, b < lvK p.2 := by
  intro p hp
  obtain ⟨i, hi, hp⟩ := List.mem_flatMap.mp hp
  simp only [List.mem_cons, List.not_mem_nil, or_false] at hp
  rcases hp with rfl | rfl | rfl
  · exact h i hi
  · exact hb
  · show b < 31; omega
theorem owed₀_lv {c : Dev nD} : ∀ p ∈ owed₀ c, 0 < lvK p.2 := by
  intro p hp
  unfold owed₀ at hp
  split at hp <;> simp only [List.mem_cons] at hp
  · rcases hp with rfl | rfl | hp
    · exact Nat.one_pos
    · exact Nat.one_pos
    · exact lt_trans Nat.one_pos (owE_lv p hp)
  · rcases hp with rfl | rfl | rfl | hp
    · exact Nat.one_pos
    · exact Nat.one_pos
    · exact Nat.one_pos
    · exact owM_lv (b := 0) (by decide) (fun i _ => by omega) p hp

omit [FloatOps F] in
/-- A device may wait on a cell that lies below everything it owes. -/
theorem mayWait (c : Dev nD) (sm : SemLoc sig) (b : ℕ) (l : List (Dev nD × KC)) (hsm : lv ((c : Thread nD τ), sm) () ≤ b)
    (hl : ∀ p ∈ l, b < lvK p.2) : (levAts L lv : sProp 𝕄) ⊢ MayWait (c : Thread nD τ) sm () (OL l) :=
  MayOwe.of_cut (L := L) (lev := lv) b (fun p hp => by rw [Finset.mem_singleton.mp hp, L_tc]; exact Finset.mem_singleton_self _)
    (fun g u hg => by
      obtain ⟨p, -, rfl⟩ := OL_pos hg
      rw [L_tc]; exact Finset.mem_singleton_self _)
    (fun p hp => by rw [Finset.mem_singleton.mp hp]; exact hsm)
    (fun g u hg => by
      obtain ⟨p, hp, rfl⟩ := OL_pos hg
      rw [lv_cell]; exact hl p hp)

end Cert.ReduceProof

end
-- ==== Proof.Rules.lean ====
/-
# One rule for every kind of step, and one for the loops
-/
module

public import proofs.«01_k».proof.Proof.Sched

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (Kn : Dev nD × KC → ℕ)

abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What is still to be paid, the waits recorded left open. -/
def ow (c : Dev nD) (l : List (Dev nD × KC)) : sProp 𝕄 := iprop(∃ W, owes (c : Thread nD τ) (OL l) W)

omit [FloatOps F] in
/-- The levels of the cells. -/
def lvs : sProp 𝕄 := levAts L lv
omit [FloatOps F] in
instance lvs_persistent : BI.Persistent (lvs (F := F)) := by unfold lvs; infer_instance
omit [FloatOps F] in
theorem lvs_mayWait (c : Dev nD) (k : KC) (l : List (Dev nD × KC)) (hl : ∀ p ∈ l, lvK k < lvK p.2) :
    lvs (F := F) ⊢ MayWait (c : Thread nD τ) (csem k) () (OL l) := by
  unfold lvs
  exact mayWait c (csem k) (lvK k) l (le_of_eq (lv_cell c k)) hl

/-- What every device knows: the cells' invariants, that round 0 of each is reached, the levels. -/
def ctx : sProp 𝕄 :=
  iprop((bigSep Finset.univ fun ck : Dev nD × KC => cellInv ER (Rd m ρ) (Kn ck) (kcell ck))
    ∗ (bigSep Finset.univ fun ck : Dev nD × KC => reached ER (kcell ck) 0) ∗ lvs)
instance ctx_persistent : BI.Persistent (ctx m ρ Kn) := by unfold ctx; infer_instance

theorem ctx_inv (ck : Dev nD × KC) : ctx m ρ Kn ⊢ cellInv ER (Rd m ρ) (Kn ck) (kcell ck) := by
  have h : (bigSep Finset.univ fun ck : Dev nD × KC => cellInv ER (Rd m ρ) (Kn ck) (kcell ck)) ⊢ cellInv ER (Rd m ρ) (Kn ck) (kcell ck) :=
    bigSep_elim (Finset.mem_univ ck)
  unfold ctx; iintro ⟨#H, -, -⟩; iapply h; iexact H
theorem ctx_reached (ck : Dev nD × KC) : ctx m ρ Kn ⊢ reached ER (kcell ck) 0 := by
  have h : (bigSep Finset.univ fun ck : Dev nD × KC => (reached ER (kcell ck) 0 : sProp 𝕄)) ⊢ reached ER (kcell ck) 0 :=
    bigSep_elim (Finset.mem_univ ck)
  unfold ctx; iintro ⟨-, #H, -⟩; iapply h; iexact H
theorem ctx_lev : ctx m ρ Kn ⊢ lvs (F := F) := by
  unfold ctx; iintro ⟨-, -, #H⟩; iexact H

omit [FloatOps F] in
/-- The token of the one duty of a table cell, the device's credit for it, its position at round 0, its counter at zero. -/
abbrev tok (c : Dev nD) (k : OC) : sProp 𝕄 := dutyTok ER (kcell (c, some k)) 0 0
omit [FloatOps F] in
abbrev crd (c : Dev nD) (k : OC) : sProp 𝕄 := cred (tallyAt (kcell (c, some k)) () N)
omit [FloatOps F] in
abbrev pos (c : Dev nD) (k : KC) : sProp 𝕄 := atPos ER (kcell (c, k)) 0 ∅ 0
omit [FloatOps F] in
abbrev zer (c : Dev nD) (k : KC) : sProp 𝕄 := semVal (kcell (c, k)) 0

theorem mem_duties {c : Dev nD} {k : OC} (hu : used c k) : (0 : Fin 3) ∈ (Rd m ρ).duties (kcell (c, some k)) 0 := by
  rw [duties_eq m ρ c (some k), duts_used hu]; exact Finset.mem_singleton_self _

section Rules
variable (c : Dev nD)

/-- A signal to the barrier cell of `c'` that pays its duty `d`. -/
theorem wp_sig {α : Type} {Q : α → sProp 𝕄} {k' : PUnit → Prog (TpuEff nD τ sig (Elt F) Λ₀ .tc) α}
    {n c' : Dev nD} (hn : n = c') (d : Fin 3) (hd : d ∈ duts c' none) (l : List (Dev nD × KC)) :
    iprop(ctx m ρ Kn ∗ ow c ((c', none) :: l) ∗ dutyTok ER (kcell (c', none)) 0 d ∗ payB c' d)
      ⊢ iprop((ow c l -∗ WP c (k' ⟨⟩) Q) -∗ WP c (.op (.semSignal (n : Thread nD τ) barS 1) k') Q) := by
  subst hn
  have hp : payB n d ⊢ (Rd m ρ).payload ((n : Thread nD τ), SemLoc.reg barS) 0 d := Entails.of_eq (payload_eq m ρ n none 0 d).symm
  unfold ow
  iintro ⟨#Hc, ⟨%W, HO⟩, Ht, Hp⟩ Hk
  iapply (Rounds.wp_signal 𝒱₀ ER (Rd m ρ) (c : Thread nD τ) none (dst := (n : Thread nD τ)) (κ := Kn (n, none)) (r := 0)
      (d := d) (show d ∈ (Rd m ρ).duties (kcell (n, none)) 0 from (duties_eq m ρ n none).symm ▸ hd) (amount_eq m ρ n none 0 d) () (OL l) rfl (W := W)) $$ [HO Ht Hp]
  · isplitr; · iapply (ctx_inv m ρ Kn (n, none)); iexact Hc
    isplitl [HO]; · iexact HO
    isplitl [Ht]; · iexact Ht
    isplitl [Hp]; · iapply hp; iexact Hp
    iapply (ctx_reached m ρ Kn (n, none)); iexact Hc
  iintro HO
  iapply Hk
  iexists W; iexact HO

/-- A wait for the whole of a cell's round: its payloads come, and its counter is at zero for good. -/
theorem wp_wt {α : Type} {Q : α → sProp 𝕄} {k' : PUnit → Prog (TpuEff nD τ sig (Elt F) Λ₀ .tc) α}
    (k : KC) (n : ℕ) (hn : n = (duts c k).card * amt k) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem k) n K)
    (l : List (Dev nD × KC)) (hl : ∀ p ∈ l, lvK k < lvK p.2) :
    iprop(ctx m ρ Kn ∗ cred (tallyAt (kcell (c, k)) () n) ∗ ow c l ∗ pos c k)
      ⊢ iprop(((ow c l ∗ zer c k ∗ bigSep (duts c k) fun d => pay m ρ c d k) -∗ WP c (k' ⟨⟩) Q) -∗ WP c (.op w k') Q) := by
  have hM : ctx m ρ Kn ⊢ MayWait (c : Thread nD τ) (csem k) () (OL l) := (@ctx_lev F _ m ρ Kn).trans (@lvs_mayWait F c k l hl)
  unfold ow
  iintro ⟨#Hc, Hcr, ⟨%W, HO⟩, Hat⟩ Hk
  iapply (Rounds.wp_wait_rest_token 𝒱₀ ER (Rd m ρ) (c : Thread nD τ) none (κ := Kn (c, k)) hw (Set.mem_univ _) () (O := OL l) (W := W)
      (R := 0) (m := 0) (T := ∅) (by rw [Nat.zero_add, expect_eq m ρ c k]; exact hn)) $$ [Hcr HO Hat]
  · isplitr; · iapply (ctx_inv m ρ Kn (c, k)); iexact Hc
    isplitl [Hcr]; · iexact Hcr
    isplitl [HO]; · iexact HO
    isplitr
    · iapply hM; iexact Hc
    iexact Hat
  iintro ⟨HO, Hat, -, Hp⟩
  imod (Rounds.cell_close ER (Rd m ρ) (Set.mem_univ (Kn (c, k))) (fun h => h) (R := 0 + 1) (duties_later m ρ (kcell (c, k)))) $$ [Hat] with Hz
  · isplitr; · iapply (ctx_inv m ρ Kn (c, k)); iexact Hc
    iexact Hat
  iapply Hk
  isplitl [HO]; · iexists _; iexact HO
  isplitl [Hz]; · iexact Hz
  ihave Hp := (Entails.of_eq (rest_eq m ρ c k)) $$ Hp
  iexact Hp

/-- A wait on a table cell that is used. -/
theorem wp_wd {α : Type} {Q : α → sProp 𝕄} {k' : PUnit → Prog (TpuEff nD τ sig (Elt F) Λ₀ .tc) α}
    (k : OC) (hu : used c k) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (osem k) N K)
    (l : List (Dev nD × KC)) (hl : ∀ p ∈ l, lvK (some k) < lvK p.2) :
    iprop(ctx m ρ Kn ∗ crd c k ∗ ow c l ∗ pos c (some k))
      ⊢ iprop(((ow c l ∗ zer c (some k) ∗ pay m ρ c 0 (some k)) -∗ WP c (k' ⟨⟩) Q) -∗ WP c (.op w k') Q) := by
  have e : (bigSep (duts c (some k)) fun d => pay m ρ c d (some k)) = pay m ρ c 0 (some k) := by rw [duts_used hu, bigSep_singleton]
  rw [← e]
  exact wp_wt m ρ Kn c (some k) N (by rw [duts_used hu, Finset.card_singleton, Nat.one_mul]; rfl) hw l hl

/-- A copy of phase `ph`, chunk `i`, to the device `c'`. -/
theorem wp_snd {α : Type} {Q : α → sProp 𝕄} {k' : PUnit → Prog (TpuEff nD τ sig (Elt F) Λ₀ .tc) α}
    {n c' : Dev nD} (hn : n = c') (ph : Fin 4) (i : Fin 16) (hs : used c (0, ph, i)) (hr : used c' (1, ph, i))
    {src : Memref sig .tc .vmem S128x1024 .bf16} {dst : Memref sig .tc .vmem S128x1024 .bf16}
    {hsc : (dst : Memref sig (Dev.tc n : Thread nD τ).2.kind .vmem S128x1024 .bf16).view.ref.isScScratch = false}
    {hsrc : src.view.WordExact} {hdst : dst.view.WordExact}
    {hsem : DmaTarget.Typed .vmem (.dma (rcvS ph i)) (.remote (Dev.tc n : Thread nD τ) dst (.dma (sndS ph i)) hsc)}
    (hN : dst.view.amount (SemLoc.dma (rcvS ph i)) = N) {q : PosShare TreeShare}
    {fs : Buf (Elt F) (src.view.loc (c : Thread nD τ))} {fd : Buf (Elt F) (dst.view.loc (c' : Thread nD τ))} (l : List (Dev nD × KC)) {P P' : sProp 𝕄}
    (hP : P ⊢ (src.view.loc (c : Thread nD τ) ↦[src.view.set]{q} fs)) (hP' : P' ⊢ (dst.view.loc (c' : Thread nD τ) ↦[dst.view.set]{fullShare} fd))
    (h₁ : (src.view.loc (c : Thread nD τ) ↦[src.view.set]{q} fs) ⊢ payS m ρ c i ph)
    (h₂ : (dst.view.loc (c' : Thread nD τ) ↦[dst.view.set]{fullShare} (dst.view.write (Elt F) fd (src.view.read (Elt F) fs) Finset.univ)) ⊢ payR m ρ c' i ph) :
    iprop(ctx m ρ Kn ∗ P ∗ P' ∗ ow c ((c', some (1, ph, i)) :: l) ∗ tok c (0, ph, i) ∗ tok c' (1, ph, i))
      ⊢ iprop(((crd c (0, ph, i) ∗ ow c l) -∗ WP c (k' ⟨⟩) Q)
        -∗ WP c (.op (.enqueueDma src (.remote (Dev.tc n : Thread nD τ) dst (.dma (sndS ph i)) hsc) (.dma (rcvS ph i)) hsrc hdst hsem) k') Q) := by
  subst hn
  unfold ow
  iintro ⟨#Hc, HP, HP', ⟨%W, HO⟩, Ht, Ht'⟩ Hk
  ihave Hs := hP $$ HP
  ihave Hd := hP' $$ HP'
  iapply (Rounds.wp_send_pointsTo 𝒱₀ ER (Rd m ρ) (c : Thread nD τ) none (κ₁ := Kn (c, some (0, ph, i))) (κ₂ := Kn (n, some (1, ph, i)))
    (r₁ := 0) (r₂ := 0) (d₁ := 0) (d₂ := 0) (fd := fd)
    (mem_duties m ρ hs)
    (mem_duties m ρ hr)
    () () N hN (amount_eq m ρ c (some (0, ph, i)) 0 0) (amount_eq m ρ n (some (1, ph, i)) 0 0) (OL l) rfl (W := W)
    (h₁.trans (Entails.of_eq (payload_eq m ρ c (some (0, ph, i)) 0 0).symm))
    (h₂.trans (Entails.of_eq (payload_eq m ρ n (some (1, ph, i)) 0 0).symm))) $$ [Hs Hd HO Ht Ht']
  · isplitr; · iapply (ctx_inv m ρ Kn (c, some (0, ph, i))); iexact Hc
    isplitr; · iapply (ctx_inv m ρ Kn (n, some (1, ph, i))); iexact Hc
    isplitl [Hs]; · iexact Hs
    isplitl [Hd]; · iexact Hd
    isplitl [HO]; · iexact HO
    isplitl [Ht]; · iexact Ht
    isplitr; · iapply (ctx_reached m ρ Kn (c, some (0, ph, i))); iexact Hc
    isplitl [Ht']; · iexact Ht'
    iapply (ctx_reached m ρ Kn (n, some (1, ph, i))); iexact Hc
  iintro ⟨Hcr, HO⟩
  iapply Hk
  isplitl [Hcr]; · iexact Hcr
  iexists W; iexact HO

/-- The same, where the receiver gets the source chunk along with the landed one. -/
theorem wp_snd_landing {α : Type} {Q : α → sProp 𝕄} {k' : PUnit → Prog (TpuEff nD τ sig (Elt F) Λ₀ .tc) α}
    {n c' : Dev nD} (hn : n = c') (ph : Fin 4) (i : Fin 16) (hs : used c (0, ph, i)) (hr : used c' (1, ph, i))
    {src : Memref sig .tc .vmem S128x1024 .bf16} {dst : Memref sig .tc .vmem S128x1024 .bf16}
    {hsc : (dst : Memref sig (Dev.tc n : Thread nD τ).2.kind .vmem S128x1024 .bf16).view.ref.isScScratch = false}
    {hsrc : src.view.WordExact} {hdst : dst.view.WordExact}
    {hsem : DmaTarget.Typed .vmem (.dma (rcvS ph i)) (.remote (Dev.tc n : Thread nD τ) dst (.dma (sndS ph i)) hsc)}
    (hN : dst.view.amount (SemLoc.dma (rcvS ph i)) = N) {q : PosShare TreeShare}
    {fs : Buf (Elt F) (src.view.loc (c : Thread nD τ))} {fd : Buf (Elt F) (dst.view.loc (c' : Thread nD τ))} (l : List (Dev nD × KC)) {P P' : sProp 𝕄}
    (hP : P ⊢ (src.view.loc (c : Thread nD τ) ↦[src.view.set]{q} fs)) (hP' : P' ⊢ (dst.view.loc (c' : Thread nD τ) ↦[dst.view.set]{fullShare} fd))
    (h₁ : (emp : sProp 𝕄) ⊢ payS m ρ c i ph)
    (h₂ : iprop((dst.view.loc (c' : Thread nD τ) ↦[dst.view.set]{fullShare} (dst.view.write (Elt F) fd (src.view.read (Elt F) fs) Finset.univ))
      ∗ (src.view.loc (c : Thread nD τ) ↦[src.view.set]{q} fs)) ⊢ payR m ρ c' i ph) :
    iprop(ctx m ρ Kn ∗ P ∗ P' ∗ ow c ((c', some (1, ph, i)) :: l) ∗ tok c (0, ph, i) ∗ tok c' (1, ph, i))
      ⊢ iprop(((crd c (0, ph, i) ∗ ow c l) -∗ WP c (k' ⟨⟩) Q)
        -∗ WP c (.op (.enqueueDma src (.remote (Dev.tc n : Thread nD τ) dst (.dma (sndS ph i)) hsc) (.dma (rcvS ph i)) hsrc hdst hsem) k') Q) := by
  subst hn
  unfold ow
  iintro ⟨#Hc, HP, HP', ⟨%W, HO⟩, Ht, Ht'⟩ Hk
  ihave Hs := hP $$ HP
  ihave Hd := hP' $$ HP'
  iapply (Rounds.wp_send_landing_pointsTo 𝒱₀ ER (Rd m ρ) (c : Thread nD τ) none (κ₁ := Kn (c, some (0, ph, i))) (κ₂ := Kn (n, some (1, ph, i)))
    (r₁ := 0) (r₂ := 0) (d₁ := 0) (d₂ := 0) (fd := fd)
    (mem_duties m ρ hs)
    (mem_duties m ρ hr)
    () () N hN (amount_eq m ρ c (some (0, ph, i)) 0 0) (amount_eq m ρ n (some (1, ph, i)) 0 0) (OL l) rfl (W := W)
    (h₁.trans (Entails.of_eq (payload_eq m ρ c (some (0, ph, i)) 0 0).symm))
    (h₂.trans (Entails.of_eq (payload_eq m ρ n (some (1, ph, i)) 0 0).symm))) $$ [Hs Hd HO Ht Ht']
  · isplitr; · iapply (ctx_inv m ρ Kn (c, some (0, ph, i))); iexact Hc
    isplitr; · iapply (ctx_inv m ρ Kn (n, some (1, ph, i))); iexact Hc
    isplitl [Hs]; · iexact Hs
    isplitl [Hd]; · iexact Hd
    isplitl [HO]; · iexact HO
    isplitl [Ht]; · iexact Ht
    isplitr; · iapply (ctx_reached m ρ Kn (c, some (0, ph, i))); iexact Hc
    isplitl [Ht']; · iexact Ht'
    iapply (ctx_reached m ρ Kn (n, some (1, ph, i))); iexact Hc
  iintro ⟨Hcr, HO⟩
  iapply Hk
  isplitl [Hcr]; · iexact Hcr
  iexists W; iexact HO

end Rules

/-! ## Loops -/

omit [FloatOps F] in
/-- The separating conjunction of `Φ` along a list. -/
def sepL {A : Type} : List A → (A → sProp 𝕄) → sProp 𝕄
  | [], _ => iprop(emp)
  | a :: l, Φ => iprop(Φ a ∗ sepL l Φ)

omit [FloatOps F] in
theorem bigSep_toFinset {A : Type} [DecidableEq A] (Φ : A → sProp 𝕄) : ∀ l : List A, l.Nodup → bigSep l.toFinset Φ = sepL l Φ
  | [], _ => by rw [List.toFinset_nil, bigSep_empty]; rfl
  | a :: l, h => by
    rw [List.toFinset_cons, bigSep_insert (fun hm => (List.nodup_cons.mp h).1 (List.mem_toFinset.mp hm)), bigSep_toFinset Φ l (List.nodup_cons.mp h).2]
    rfl

omit [FloatOps F] in
/-- Over all sixteen chunks. -/
theorem bigSep_chunks (Φ : Fin 16 → sProp 𝕄) : bigSep Finset.univ Φ = sepL chunks Φ := by
  rw [← bigSep_toFinset Φ chunks (by decide)]
  exact congrArg (fun s => bigSep s Φ) (by decide)

/-- A loop by its step: `P` is known throughout, `R` is kept, each chunk turns `Pre` into `Post` and pays its part. -/
theorem wp_loop (c : Dev nD) {P R : sProp 𝕄} [BI.Persistent P] (f : Fin 16 → PM F PUnit) (o : List (Fin 16) → List (Dev nD × KC)) (Pre Post : Fin 16 → sProp 𝕄)
    (Q : PUnit → sProp 𝕄)
    (step : ∀ i l (k : PUnit → PM F PUnit), (∀ j ∈ l, i < j) →
      iprop(P ∗ R ∗ ow c (o (i :: l)) ∗ Pre i) ⊢ iprop(((R ∗ ow c (o l) ∗ Post i) -∗ WP c (k ⟨⟩) Q) -∗ WP c (f i >>= k) Q)) (p : PM F PUnit) :
    ∀ l : List (Fin 16), l.Pairwise (· < ·) →
      iprop(P ∗ R ∗ ow c (o l) ∗ sepL l Pre) ⊢ iprop(((R ∗ ow c (o []) ∗ sepL l Post) -∗ WP c p Q) -∗ WP c (loop f l p) Q)
  | [], _ => by
    iintro ⟨-, HR, HO, -⟩ Hk
    unfold loop
    iapply Hk
    isplitl [HR]; · iexact HR
    isplitl [HO]; · iexact HO
    unfold sepL; iempintro
  | i :: l, h => by
    unfold loop sepL
    iintro ⟨#HP, HR, HO, Hi, Hl⟩ Hk
    iapply (step i l (fun _ => loop f l p) (fun j hj => (List.pairwise_cons.mp h).1 j hj)) $$ [HR HO Hi]
    · isplitr; · iexact HP
      isplitl [HR]; · iexact HR
      isplitl [HO] <;> iassumption
    iintro ⟨HR, HO, Hi⟩
    iapply (wp_loop c f o Pre Post Q step p l (List.pairwise_cons.mp h).2) $$ [HR HO Hl]
    · isplitr; · iexact HP
      isplitl [HR]; · iexact HR
      isplitl [HO] <;> iassumption
    iintro ⟨HR, HO, Hl⟩
    iapply Hk
    isplitl [HR]; · iexact HR
    isplitl [HO]; · iexact HO
    isplitl [Hi] <;> iassumption

end Cert.ReduceProof

end
-- ==== Proof.Steps1.lean ====
/-
# The step rules at the chunks of the four buffers, and the steps of an end device
-/
module

public import proofs.«01_k».proof.Proof.Rules

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (Kn : Dev nD × KC → ℕ)

/-- The staged block of `x`, whole. -/
def xPts (c : Dev nD) : sProp 𝕄 := xM.view.loc (c : Thread nD τ) ↦[Finset.univ]{fullShare} (xs m ρ c)

section Slices
omit [FloatOps F]
variable (c : Dev nD) {off : Fin 2 → Nat} (inb : ∀ a, off a + S128x1024.size a ≤ S4096x1024.size a) {h : Fin 2} {i : Fin 16} (e : off = ro h i)
include e

/-- A chunk of the result buffer, as the slice a copy goes through. -/
theorem oPts_slice (q : PosShare TreeShare) (f : XB F) :
    oPts c h i q f = ((oM.slice (rO off inb) (fun _ => rfl)).view.loc (c : Thread nD τ) ↦[(oM.slice (rO off inb) (fun _ => rfl)).view.set]{q} f) := by
  unfold oPts; rw [slice_set inb e]

theorem wp_ld_o {α : Type} {Q : α → sProp 𝕄} (q : PosShare TreeShare) (f : XB F) {hl : oM.view.LoadsAt (rO off inb).toLoadRect}
    {k : Vec F S128x1024 .bf16 → Prog (TpuEff nD τ sig (Elt F) Λ₀ .tc) α} [FloatOps F] :
    oPts c h i q f ⊢ iprop((oPts c h i q f -∗ WP c (k (oM.view.readAt (Elt F) (rO off inb).toLoadRect f)) Q)
      -∗ WP c (.op (.load oM (rO off inb).toLoadRect hl) k) Q) :=
  wp_load 𝒱₀ (c : Thread nD τ) none Set.univ (m := oM) (by rw [load_set inb e])

theorem wp_st_o {α : Type} {Q : α → sProp 𝕄} (f g : XB F) {v : Vec F S128x1024 .bf16} {hx : (oM.access (rO off inb)).Stores Finset.univ}
    {hm : (Finset.univ : Finset S128x1024.Idx) = Finset.univ ∨ ∀ a, (rO off inb).stride a = 1}
    {k : PUnit → Prog (TpuEff nD τ sig (Elt F) Λ₀ .tc) α} [FloatOps F]
    (hv : ∀ j ∈ oS h i, ((oM.access (rO off inb) : View sig .tc _ _ _).write (Elt F) f v Finset.univ : XB F) j = g j) :
    oPts c h i fullShare f ⊢ iprop((oPts c h i fullShare g -∗ WP c (k ⟨⟩) Q)
      -∗ WP c (.op (.store oM (rO off inb) v Finset.univ hx hm) k) Q) := by
  have e1 : oPts c h i fullShare g = (oM.view.loc (c : Thread nD τ) ↦[oS h i]{fullShare} ((oM.access (rO off inb) : View sig .tc _ _ _).write (Elt F) f v Finset.univ)) :=
    pointsTo_congr fun j hj => (hv j hj).symm
  rw [e1]
  exact wp_store 𝒱₀ (c : Thread nD τ) none Set.univ (m := oM) (r := rO off inb) (Mk := Finset.univ) (le_of_eq (access_set inb e))
end Slices

theorem wp_ld_x (c : Dev nD) {r : Rect S4096x1024} {α : Type} {Q : α → sProp 𝕄} {hl : xM.view.LoadsAt r.toLoadRect}
    {k : (r.toLoadRect.shape.Idx → Elt F .bf16) → Prog (TpuEff nD τ sig (Elt F) Λ₀ .tc) α} :
    xPts m ρ c ⊢ iprop((xPts m ρ c -∗ WP c (k (xM.view.readAt (Elt F) r.toLoadRect (xs m ρ c))) Q)
      -∗ WP c (.op (.load xM r.toLoadRect hl) k) Q) :=
  wp_load 𝒱₀ (c : Thread nD τ) none Set.univ (m := xM) (Finset.subset_univ _)

theorem wp_ld_a (c : Dev nD) (i : Fin 16) (f : LB F) {α : Type} {Q : α → sProp 𝕄} {hl : aM.view.LoadsAt (lR i).toLoadRect}
    {k : Vec F S128x1024 .bf16 → Prog (TpuEff nD τ sig (Elt F) Λ₀ .tc) α} :
    aPts c i f ⊢ iprop((aPts c i f -∗ WP c (k (aM.view.readAt (Elt F) (lR i).toLoadRect f)) Q)
      -∗ WP c (.op (.load aM (lR i).toLoadRect hl) k) Q) :=
  wp_load 𝒱₀ (c : Thread nD τ) none Set.univ (m := aM) (by rw [a_load_set i])
theorem wp_ld_b (c : Dev nD) (i : Fin 16) (f : LB F) {α : Type} {Q : α → sProp 𝕄} {hl : bM.view.LoadsAt (lR i).toLoadRect}
    {k : Vec F S128x1024 .bf16 → Prog (TpuEff nD τ sig (Elt F) Λ₀ .tc) α} :
    bPts c i f ⊢ iprop((bPts c i f -∗ WP c (k (bM.view.readAt (Elt F) (lR i).toLoadRect f)) Q)
      -∗ WP c (.op (.load bM (lR i).toLoadRect hl) k) Q) :=
  wp_load 𝒱₀ (c : Thread nD τ) none Set.univ (m := bM) (by rw [b_load_set i])

omit [FloatOps F] in
theorem aPts_slice (c : Dev nD) (i : Fin 16) (f : LB F) : aPts c i f = ((aC i).view.loc (c : Thread nD τ) ↦[(aC i).view.set]{fullShare} f) := by
  unfold aPts; rw [aC_set]
omit [FloatOps F] in
theorem bPts_slice (c : Dev nD) (i : Fin 16) (f : LB F) : bPts c i f = ((bC i).view.loc (c : Thread nD τ) ↦[(bC i).view.set]{fullShare} f) := by
  unfold bPts; rw [bC_set]

section Landed
omit [FloatOps F]
variable (c : Dev nD) {off : Fin 2 → Nat} (inb : ∀ a, off a + S128x1024.size a ≤ S4096x1024.size a) {h : Fin 2} {i : Fin 16} (e : off = ro h i)
include e
/-- What a copy of a chunk leaves in a landing buffer, and in another result buffer. -/
theorem landed_a (fd g : LB F) (f : XB F) (hg : ∀ k ∈ lS i, f (shift h k) = g k) :
    ((aC i).view.loc (c : Thread nD τ) ↦[(aC i).view.set]{fullShare}
      ((aC i).view.write (Elt F) fd ((oM.slice (rO off inb) (fun _ => rfl)).view.read (Elt F) f) Finset.univ)) = aPts c i g := by
  unfold aPts; rw [aC_set]
  exact pointsTo_congr fun k hk => (land_a inb e fd f k hk).trans (hg k hk)
theorem landed_b (fd g : LB F) (f : XB F) (hg : ∀ k ∈ lS i, f (shift h k) = g k) :
    ((bC i).view.loc (c : Thread nD τ) ↦[(bC i).view.set]{fullShare}
      ((bC i).view.write (Elt F) fd ((oM.slice (rO off inb) (fun _ => rfl)).view.read (Elt F) f) Finset.univ)) = bPts c i g := by
  unfold bPts; rw [bC_set]
  exact pointsTo_congr fun k hk => (land_b inb e fd f k hk).trans (hg k hk)
theorem landed_o (fd g f : XB F) (hg : ∀ j ∈ oS h i, f j = g j) :
    ((oM.slice (rO off inb) (fun _ => rfl)).view.loc (c : Thread nD τ) ↦[(oM.slice (rO off inb) (fun _ => rfl)).view.set]{fullShare}
      ((oM.slice (rO off inb) (fun _ => rfl)).view.write (Elt F) fd ((oM.slice (rO off inb) (fun _ => rfl)).view.read (Elt F) f) Finset.univ))
      = oPts c h i fullShare g := by
  unfold oPts; rw [slice_set inb e]
  exact pointsTo_congr fun k hk => (land_o inb e fd f k hk).trans (hg k hk)
end Landed

/-- What the device of the other half gets, said at this device. -/
theorem payR_xp (c : Dev nD) (i : Fin 16) : payR m ρ (xp c) i 3 = oPts (xp c) (hf c) i fullShare (Gm m ρ c) := by
  show oPts (xp c) (oh (xp c)) i fullShare (Gm m ρ (xp c)) = _
  rw [Gm_xp, oh_xp]

/-! ## An end device -/

section End
variable (c : Dev nD) (h3 : k0_cond3 c = 1#1) (hE : IsEnd c)
include hE

/-- The first loop's step: the chunk of `x` is stored and sent to the middle device. -/
theorem end1_step (i : Fin 16) (l : List (Fin 16)) (k : PUnit → PM F PUnit) (Q : PUnit → sProp 𝕄) :
    iprop(ctx m ρ Kn ∗ xPts m ρ c ∗ ow c (owE c (i :: l) chunks)
        ∗ ((∃ f, oPts c (hf c) i fullShare f) ∗ (∃ f, aPts (yp c) i f) ∗ tok c (0, 0, i) ∗ tok (yp c) (1, 0, i)))
      ⊢ iprop(((xPts m ρ c ∗ ow c (owE c l chunks) ∗ crd c (0, 0, i)) -∗ WP c (k ⟨⟩) Q) -∗ WP c (end1 c h3 i >>= k) Q) := by
  iintro ⟨#Hc, Hx, HO, ⟨%f, Ho⟩, ⟨%fa, Ha⟩, Ht, Ht'⟩ Hk
  simp only [end1, Prog.lift, Prog.bind_op, Prog.bind_ret, bind, Prog.bind]
  iapply (wp_ld_x m ρ c) $$ Hx; iintro Hx
  iapply (wp_ld_o c _ (off1_eq c i) fullShare f) $$ Ho; iintro Ho
  iapply (wp_st_o c _ (off1_eq c i) f (xs m ρ c) (store_copy _ (off1_eq c i) f (xs m ρ c))) $$ Ho; iintro Ho
  have hs : used c (0, 0, i) := hE
  have hr : used (yp c) (1, 0, i) := fun h => (end_yp c).mp h hE
  have h₁ : (emp : sProp 𝕄) ⊢ payS m ρ c i 0 := .rfl
  have h₂ : iprop(((aC i).view.loc (yp c : Thread nD τ) ↦[(aC i).view.set]{fullShare} ((aC i).view.write (Elt F) fa ((eC c h3 i).view.read (Elt F) (xs m ρ c)) Finset.univ))
      ∗ ((eC c h3 i).view.loc (c : Thread nD τ) ↦[(eC c h3 i).view.set]{fullShare} (xs m ρ c))) ⊢ payR m ρ (yp c) i 0 := by
    show _ ⊢ iprop(aPts (yp c) i (Am m ρ (yp c)) ∗ oPts (yp (yp c)) (hf (yp c)) i fullShare (xs m ρ (yp (yp c))))
    rw [yp_yp, hf_yp]
    exact BI.Laws.sep_mono (Entails.of_eq (landed_a (yp c) _ (off2_eq c i) fa (Am m ρ (yp c)) (xs m ρ c) fun k _ => by unfold Am; rw [yp_yp, hf_yp]))
      (Entails.of_eq (oPts_slice c _ (off2_eq c i) fullShare (xs m ρ c)).symm)
  iapply (wp_snd_landing m ρ Kn c (dev6_eq c h3) 0 i hs hr (src := eC c h3 i) (dst := aC i) rfl (fs := xs m ρ c) (fd := fa) (q := fullShare) (owE c l chunks)
    (P := oPts c (hf c) i fullShare (xs m ρ c)) (P' := aPts (yp c) i fa)
    (Entails.of_eq (oPts_slice c _ (off2_eq c i) fullShare (xs m ρ c))) (Entails.of_eq (aPts_slice (yp c) i fa))
    h₁ h₂) $$ [Ho Ha HO Ht Ht']
  · isplitr; · iexact Hc
    isplitl [Ho]; · iexact Ho
    isplitl [Ha]; · iexact Ha
    isplitl [HO]; · iexact HO
    isplitl [Ht] <;> iassumption
  iintro ⟨Hcr, HO⟩
  iapply Hk
  isplitl [Hx]; · iexact Hx
  isplitl [HO] <;> iassumption

/-- The second loop's step: the reduced chunk arrives and is sent on to the device of the other half. -/
theorem end2_step (i : Fin 16) (l : List (Fin 16)) (k : PUnit → PM F PUnit) (Q : PUnit → sProp 𝕄) :
    iprop(ctx m ρ Kn ∗ emp ∗ ow c (owE c [] (i :: l))
        ∗ (crd c (1, 2, i) ∗ pos c (some (1, 2, i)) ∗ (∃ f, oPts (xp c) (hf c) i fullShare f) ∗ tok c (0, 3, i) ∗ tok (xp c) (1, 3, i)))
      ⊢ iprop(((emp ∗ ow c (owE c [] l) ∗ (zer c (some (1, 2, i)) ∗ crd c (0, 3, i))) -∗ WP c (k ⟨⟩) Q) -∗ WP c (end2 c h3 i >>= k) Q) := by
  iintro ⟨#Hc, -, HO, Hcr, Hat, ⟨%f, Ho⟩, Ht, Ht'⟩ Hk
  simp only [end2, Prog.lift, Prog.bind_op, Prog.bind_ret, bind, Prog.bind]
  have hl : ∀ p ∈ owE c [] (i :: l), lvK (some (1, 2, i)) < lvK p.2 := by
    intro p hp
    obtain ⟨j, -, rfl⟩ := List.mem_map.mp hp
    show 30 < 31; decide
  have hw : ∀ K : PUnit → sProp 𝕄, wpE (defs₀ (F := F)) 𝒱₀ (c : Thread nD τ) none Set.univ
      (.waitDma2 (rcvS 2 i) (eC c h3 i) (eC c h3 i) (oW.wordExact_slice rfl _ (k0_off2_wordsbf16 c h3 i)) (oW.wordExact_slice rfl _ (k0_off2_wordsbf16 c h3 i))) K
      = waitSpec (c : Thread nD τ) Set.univ (osem (1, 2, i)) N K := fun K => wpE_waitDma2_eq 𝒱₀ (c : Thread nD τ) none Set.univ K
  have hu : used c (1, 2, i) := hE
  iapply (wp_wd m ρ Kn c (1, 2, i) hu hw (owE c [] (i :: l)) hl) $$ [HO Hcr Hat]
  · isplitr; · iexact Hc
    isplitl [Hcr]; · iexact Hcr
    isplitl [HO] <;> iassumption
  iintro ⟨HO, Hz, Hp⟩
  have hs : used c (0, 3, i) := trivial
  have hr : used (xp c) (1, 3, i) := trivial
  have h₀ : pay m ρ c 0 (some (1, 2, i)) ⊢ ((eC c h3 i).view.loc (c : Thread nD τ) ↦[(eC c h3 i).view.set]{fullShare} (Gm m ρ c)) :=
    Entails.of_eq (oPts_slice c _ (off2_eq c i) fullShare (Gm m ρ c))
  have h₁ : ((eC c h3 i).view.loc (c : Thread nD τ) ↦[(eC c h3 i).view.set]{fullShare} (Gm m ρ c)) ⊢ payS m ρ c i 3 := by
    show _ ⊢ oPts c (hf c) i (shX c) (Gm m ρ c)
    rw [show shX c = fullShare from if_pos hE]
    exact Entails.of_eq (oPts_slice c _ (off2_eq c i) fullShare (Gm m ρ c)).symm
  have h₂ : ((eC c h3 i).view.loc (xp c : Thread nD τ) ↦[(eC c h3 i).view.set]{fullShare} ((eC c h3 i).view.write (Elt F) f ((eC c h3 i).view.read (Elt F) (Gm m ρ c)) Finset.univ))
      ⊢ payR m ρ (xp c) i 3 :=
    Entails.of_eq ((landed_o (xp c) _ (off2_eq c i) f (Gm m ρ c) (Gm m ρ c) fun _ _ => rfl).trans (payR_xp m ρ c i).symm)
  have hN : (eC c h3 i).view.amount (SemLoc.dma (rcvS 3 i)) = N := rfl
  iapply (wp_snd m ρ Kn c (dev22_eq c h3) 3 i hs hr (src := eC c h3 i) (dst := eC c h3 i) hN (fs := Gm m ρ c) (fd := f) (q := fullShare) (owE c [] l)
    (P := pay m ρ c 0 (some (1, 2, i))) (P' := oPts (xp c) (hf c) i fullShare f)
    h₀ (Entails.of_eq (oPts_slice (xp c) _ (off2_eq c i) fullShare f))
    h₁ h₂) $$ [Hp Ho HO Ht Ht']
  · isplitr; · iexact Hc
    isplitl [Hp]; · iexact Hp
    isplitl [Ho]; · iexact Ho
    isplitl [HO]; · iexact HO
    isplitl [Ht] <;> iassumption
  iintro ⟨Hcr, HO⟩
  iapply Hk
  isplitr; · iempintro
  isplitl [HO]; · iexact HO
  isplitl [Hz] <;> iassumption
end End

/-- The step of a loop that only waits on the cells `kc i`. -/
theorem wait_step (c : Dev nD) (kc : Fin 16 → OC) (hu : ∀ i, used c (kc i)) (g : Fin 16 → PM F PUnit)
    (op : (i : Fin 16) → TpuEff nD τ sig (Elt F) Λ₀ .tc PUnit) (hg : ∀ i (k : PUnit → PM F PUnit), (g i >>= k) = .op (op i) k)
    (hw : ∀ i, ∀ K : PUnit → sProp 𝕄, wpE (defs₀ (F := F)) 𝒱₀ (c : Thread nD τ) none Set.univ (op i) K = waitSpec (c : Thread nD τ) Set.univ (osem (kc i)) N K)
    (i : Fin 16) (k : PUnit → PM F PUnit) (Q : PUnit → sProp 𝕄) :
    iprop(ctx m ρ Kn ∗ emp ∗ ow c [] ∗ (crd c (kc i) ∗ pos c (some (kc i))))
      ⊢ iprop(((emp ∗ ow c [] ∗ (zer c (some (kc i)) ∗ pay m ρ c 0 (some (kc i)))) -∗ WP c (k ⟨⟩) Q) -∗ WP c (g i >>= k) Q) := by
  rw [hg]
  iintro ⟨#Hc, -, HO, Hcr, Hat⟩ Hk
  iapply (wp_wd m ρ Kn c (kc i) (hu i) (hw i) [] (by simp)) $$ [HO Hcr Hat]
  · isplitr; · iexact Hc
    isplitl [Hcr]; · iexact Hcr
    isplitl [HO] <;> iassumption
  iintro ⟨HO, Hz, Hp⟩
  iapply Hk
  isplitr; · iempintro
  isplitl [HO]; · iexact HO
  isplitl [Hz] <;> iassumption

end Cert.ReduceProof

end
-- ==== Proof.Steps2.lean ====
/-
# The steps of a middle device
-/
module

public import proofs.«01_k».proof.Proof.Steps1

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (Kn : Dev nD × KC → ℕ)

variable (c : Dev nD) (h4 : k0_cond4 c = 1#1) (hM : ¬ IsEnd c)

theorem payR_0 (i : Fin 16) : payR m ρ c i 0 = iprop(aPts c i (fun k => xs m ρ (yp c) (shift (hf c) k)) ∗ oPts (yp c) (hf c) i fullShare (xs m ρ (yp c))) := rfl
theorem payR_1 (i : Fin 16) : payR m ρ c i 1 = bPts c i (fun k => Sm m ρ (op c) (shift (hf c) k)) := rfl
/-- What the other middle device, and the end device, get, said at this device. -/
theorem payR_op (i : Fin 16) : payR m ρ (op c) i 1 = bPts (op c) i (fun k => Sm m ρ c (shift (hf c) k)) := by
  rw [payR_1, op_op, hf_op]
theorem payR_yp (i : Fin 16) : payR m ρ (yp c) i 2 = oPts (yp c) (hf c) i fullShare (Gm m ρ c) := by
  show oPts (yp c) (hf (yp c)) i fullShare (Gm m ρ (yp c)) = _
  rw [Gm_yp, hf_yp]

include hM

/-- First part of the loop's step: the end's chunk arrives, the sum with the own chunk is stored and exchanged with the
    other middle device. -/
theorem mid1_step (i : Fin 16) (l : List (Dev nD × KC)) (hl : ∀ p ∈ l, lvK (some (1, 1, i)) < lvK p.2)
    (k : PUnit → PM F PUnit) (Q : PUnit → sProp 𝕄) :
    iprop(ctx m ρ Kn ∗ xPts m ρ c ∗ ow c ((op c, some (1, 1, i)) :: l)
        ∗ (crd c (1, 0, i) ∗ pos c (some (1, 0, i)) ∗ crd c (1, 1, i) ∗ pos c (some (1, 1, i)) ∗ pos c (some (0, 1, i))
          ∗ (∃ f, oPts c (hf c) i fullShare f) ∗ (∃ f, bPts (op c) i f) ∗ tok c (0, 1, i) ∗ tok (op c) (1, 1, i)))
      ⊢ iprop(((xPts m ρ c ∗ ow c l ∗ (zer c (some (1, 0, i)) ∗ zer c (some (1, 1, i)) ∗ zer c (some (0, 1, i))
          ∗ aPts c i (fun k => xs m ρ (yp c) (shift (hf c) k)) ∗ bPts c i (fun k => Sm m ρ (op c) (shift (hf c) k))
          ∗ oPts c (hf c) i fullShare (Sm m ρ c) ∗ oPts (yp c) (hf c) i fullShare (xs m ρ (yp c)))) -∗ WP c (k ⟨⟩) Q)
        -∗ WP c (mid1 c h4 i >>= k) Q) := by
  iintro ⟨#Hc, Hx, HO, Hcr0, Hat0, Hcr1, Hat1, HatS, ⟨%f, Ho⟩, ⟨%fb, Hb⟩, Ht, Ht'⟩ Hk
  simp only [mid1, Prog.lift, Prog.bind_op, Prog.bind_ret, bind, Prog.bind]
  have hw0 : ∀ K : PUnit → sProp 𝕄, wpE (defs₀ (F := F)) 𝒱₀ (c : Thread nD τ) none Set.univ
      (.waitDma2 (rcvS 0 i) (aC i) (aC i) (aW.wordExact_slice rfl _ (lo_words i)) (aW.wordExact_slice rfl _ (lo_words i))) K
      = waitSpec (c : Thread nD τ) Set.univ (osem (1, 0, i)) N K := fun K => wpE_waitDma2_eq 𝒱₀ (c : Thread nD τ) none Set.univ K
  have hu0 : used c (1, 0, i) := hM
  have hl0 : ∀ p ∈ (op c, some ((1, 1, i) : OC)) :: l, lvK (some (1, 0, i)) < lvK p.2 := by
    intro p hp
    have h2 : lvK (some (1, 0, i)) < lvK (some (1, 1, i)) := show 2 < 3 + i.val by omega
    rcases List.mem_cons.mp hp with rfl | hp
    · exact h2
    · exact h2.trans (hl p hp)
  iapply (wp_wd m ρ Kn c (1, 0, i) hu0 hw0 ((op c, some (1, 1, i)) :: l) hl0) $$ [HO Hcr0 Hat0]
  · isplitr; · iexact Hc
    isplitl [Hcr0]; · iexact Hcr0
    isplitl [HO] <;> iassumption
  iintro ⟨HO, Hz0, Hp⟩
  have e0 : pay m ρ c 0 (some (1, 0, i)) ⊢ iprop(aPts c i (fun k => xs m ρ (yp c) (shift (hf c) k)) ∗ oPts (yp c) (hf c) i fullShare (xs m ρ (yp c))) :=
    Entails.of_eq (payR_0 m ρ c i)
  ihave Hp := e0 $$ Hp
  icases Hp with ⟨Ha, Hy⟩
  iapply (wp_ld_x m ρ c) $$ Hx; iintro Hx
  iapply (wp_ld_a c i (fun k => xs m ρ (yp c) (shift (hf c) k))) $$ Ha; iintro Ha
  iapply (wp_ld_o c _ (off4_eq c i) fullShare f) $$ Ho; iintro Ho
  iapply (wp_st_o c _ (off4_eq c i) f (Sm m ρ c) (store_sum_x _ (off4_eq c i) f (xs m ρ c) (xs m ρ (yp c)))) $$ Ho; iintro Ho
  have hs : used c (0, 1, i) := hM
  have hr : used (op c) (1, 1, i) := fun h => hM ((end_op c).mp h)
  have h₀ : oPts c (hf c) i fullShare (Sm m ρ c) ⊢ ((mC c h4 i).view.loc (c : Thread nD τ) ↦[(mC c h4 i).view.set]{fullShare} (Sm m ρ c)) :=
    Entails.of_eq (oPts_slice c _ (off5_eq c i) fullShare (Sm m ρ c))
  have h₁ : ((mC c h4 i).view.loc (c : Thread nD τ) ↦[(mC c h4 i).view.set]{fullShare} (Sm m ρ c)) ⊢ payS m ρ c i 1 :=
    Entails.of_eq (oPts_slice c _ (off5_eq c i) fullShare (Sm m ρ c)).symm
  have h₂ : ((bC i).view.loc (op c : Thread nD τ) ↦[(bC i).view.set]{fullShare} ((bC i).view.write (Elt F) fb ((mC c h4 i).view.read (Elt F) (Sm m ρ c)) Finset.univ))
      ⊢ payR m ρ (op c) i 1 :=
    Entails.of_eq ((landed_b (op c) _ (off5_eq c i) fb (fun k => Sm m ρ c (shift (hf c) k)) (Sm m ρ c) fun _ _ => rfl).trans (payR_op m ρ c i).symm)
  have hN : (bC i).view.amount (SemLoc.dma (rcvS 1 i)) = N := rfl
  iapply (wp_snd m ρ Kn c (dev38_eq c h4) 1 i hs hr (src := mC c h4 i) (dst := bC i) hN (fs := Sm m ρ c) (fd := fb) (q := fullShare) l
    (P := oPts c (hf c) i fullShare (Sm m ρ c)) (P' := bPts (op c) i fb) h₀ (Entails.of_eq (bPts_slice (op c) i fb)) h₁ h₂) $$ [Ho Hb HO Ht Ht']
  · isplitr; · iexact Hc
    isplitl [Ho]; · iexact Ho
    isplitl [Hb]; · iexact Hb
    isplitl [HO]; · iexact HO
    isplitl [Ht] <;> iassumption
  iintro ⟨HcrS, HO⟩
  have hw1 : ∀ K : PUnit → sProp 𝕄, wpE (defs₀ (F := F)) 𝒱₀ (c : Thread nD τ) none Set.univ
      (.waitDma2 (rcvS 1 i) (mC c h4 i) (bC i) (oW.wordExact_slice rfl _ (k0_off5_wordsbf16 c h4 i)) (bW.wordExact_slice rfl _ (lo_words i))) K
      = waitSpec (c : Thread nD τ) Set.univ (osem (1, 1, i)) N K := fun K => wpE_waitDma2_eq 𝒱₀ (c : Thread nD τ) none Set.univ K
  have hu1 : used c (1, 1, i) := hM
  iapply (wp_wd m ρ Kn c (1, 1, i) hu1 hw1 l hl) $$ [HO Hcr1 Hat1]
  · isplitr; · iexact Hc
    isplitl [Hcr1]; · iexact Hcr1
    isplitl [HO] <;> iassumption
  iintro ⟨HO, Hz1, Hb⟩
  have hw2 : ∀ K : PUnit → sProp 𝕄, wpE (defs₀ (F := F)) 𝒱₀ (c : Thread nD τ) none Set.univ
      (.waitDma2 (sndS 1 i) (bC i) (mC c h4 i) (bW.wordExact_slice rfl _ (lo_words i)) (oW.wordExact_slice rfl _ (k0_off5_wordsbf16 c h4 i))) K
      = waitSpec (c : Thread nD τ) Set.univ (osem (0, 1, i)) N K := fun K => wpE_waitDma2_eq 𝒱₀ (c : Thread nD τ) none Set.univ K
  have hl2 : ∀ p ∈ l, lvK (some (0, 1, i)) < lvK p.2 := fun p hp => lt_of_le_of_lt (Nat.zero_le _) (hl p hp)
  iapply (wp_wd m ρ Kn c (0, 1, i) hs hw2 l hl2) $$ [HO HcrS HatS]
  · isplitr; · iexact Hc
    isplitl [HcrS]; · iexact HcrS
    isplitl [HO] <;> iassumption
  iintro ⟨HO, Hz2, Ho⟩
  have e1 : pay m ρ c 0 (some (1, 1, i)) ⊢ bPts c i (fun k => Sm m ρ (op c) (shift (hf c) k)) := .rfl
  have e2 : pay m ρ c 0 (some (0, 1, i)) ⊢ oPts c (hf c) i fullShare (Sm m ρ c) := .rfl
  ihave Hb := e1 $$ Hb
  ihave Ho := e2 $$ Ho
  iapply Hk
  isplitl [Hx]; · iexact Hx
  isplitl [HO]; · iexact HO
  isplitl [Hz0]; · iexact Hz0
  isplitl [Hz1]; · iexact Hz1
  isplitl [Hz2]; · iexact Hz2
  isplitl [Ha]; · iexact Ha
  isplitl [Hb]; · iexact Hb
  isplitl [Ho] <;> iassumption

/-- Second part: the total is stored and sent to the end device and to the device of the other half. -/
theorem mid2_step (i : Fin 16) (l : List (Dev nD × KC)) (k : PUnit → PM F PUnit) (Q : PUnit → sProp 𝕄) :
    iprop(ctx m ρ Kn ∗ ow c ((yp c, some (1, 2, i)) :: (xp c, some (1, 3, i)) :: l)
        ∗ (bPts c i (fun k => Sm m ρ (op c) (shift (hf c) k))
          ∗ oPts c (hf c) i fullShare (Sm m ρ c) ∗ oPts (yp c) (hf c) i fullShare (xs m ρ (yp c)) ∗ (∃ f, oPts (xp c) (hf c) i fullShare f)
          ∗ tok c (0, 2, i) ∗ tok (yp c) (1, 2, i) ∗ tok c (0, 3, i) ∗ tok (xp c) (1, 3, i)))
      ⊢ iprop(((ow c l ∗ (bPts c i (fun k => Sm m ρ (op c) (shift (hf c) k)) ∗ crd c (0, 2, i) ∗ crd c (0, 3, i))) -∗ WP c (k ⟨⟩) Q)
        -∗ WP c (mid2 c h4 i >>= k) Q) := by
  iintro ⟨#Hc, HO, Hb, Ho, Hy, ⟨%f, Hx⟩, Ht2, Ht2', Ht3, Ht3'⟩ Hk
  simp only [mid2, Prog.lift, Prog.bind_op, Prog.bind_ret, bind, Prog.bind]
  iapply (wp_ld_o c _ (off4_eq c i) fullShare (Sm m ρ c)) $$ Ho; iintro Ho
  iapply (wp_ld_b c i (fun k => Sm m ρ (op c) (shift (hf c) k))) $$ Hb; iintro Hb
  iapply (wp_ld_o c _ (off4_eq c i) fullShare (Sm m ρ c)) $$ Ho; iintro Ho
  iapply (wp_st_o c _ (off4_eq c i) (Sm m ρ c) (Gm m ρ c) (fun j hj =>
    (store_sum_o _ (off4_eq c i) (Sm m ρ c) (Sm m ρ c) (Sm m ρ (op c)) j hj).trans (Gm_mid m ρ hM hj).symm)) $$ Ho; iintro Ho
  have hsh : oPts c (hf c) i fullShare (Gm m ρ c) ⊢ iprop(oPts c (hf c) i fullShare.left (Gm m ρ c) ∗ oPts c (hf c) i fullShare.right (Gm m ρ c)) :=
    (pointsTo_share (PosShare.mem_left_op_right fullShare)).1
  ihave Ho := hsh $$ Ho
  icases Ho with ⟨Hol, Hor⟩
  have hs2 : used c (0, 2, i) := hM
  have hr2 : used (yp c) (1, 2, i) := (end_yp c).mpr hM
  have h₀ : ∀ q, oPts c (hf c) i q (Gm m ρ c) ⊢ ((mC c h4 i).view.loc (c : Thread nD τ) ↦[(mC c h4 i).view.set]{q} (Gm m ρ c)) :=
    fun q => Entails.of_eq (oPts_slice c _ (off5_eq c i) q (Gm m ρ c))
  have h₀y : oPts (yp c) (hf c) i fullShare (xs m ρ (yp c)) ⊢ ((mC c h4 i).view.loc (yp c : Thread nD τ) ↦[(mC c h4 i).view.set]{fullShare} (xs m ρ (yp c))) :=
    Entails.of_eq (oPts_slice (yp c) _ (off5_eq c i) fullShare (xs m ρ (yp c)))
  have h₀x : oPts (xp c) (hf c) i fullShare f ⊢ ((mC c h4 i).view.loc (xp c : Thread nD τ) ↦[(mC c h4 i).view.set]{fullShare} f) :=
    Entails.of_eq (oPts_slice (xp c) _ (off5_eq c i) fullShare f)
  have h₁ : ((mC c h4 i).view.loc (c : Thread nD τ) ↦[(mC c h4 i).view.set]{fullShare.left} (Gm m ρ c)) ⊢ payS m ρ c i 2 :=
    Entails.of_eq (oPts_slice c _ (off5_eq c i) fullShare.left (Gm m ρ c)).symm
  have hsX : shX c = fullShare.right := if_neg hM
  have h₁' : ((mC c h4 i).view.loc (c : Thread nD τ) ↦[(mC c h4 i).view.set]{fullShare.right} (Gm m ρ c)) ⊢ payS m ρ c i 3 :=
    Entails.of_eq ((oPts_slice c _ (off5_eq c i) fullShare.right (Gm m ρ c)).symm.trans (congrArg (fun q => oPts c (hf c) i q (Gm m ρ c)) hsX.symm))
  have h₂ : ((mC c h4 i).view.loc (yp c : Thread nD τ) ↦[(mC c h4 i).view.set]{fullShare} ((mC c h4 i).view.write (Elt F) (xs m ρ (yp c)) ((mC c h4 i).view.read (Elt F) (Gm m ρ c)) Finset.univ))
      ⊢ payR m ρ (yp c) i 2 :=
    Entails.of_eq ((landed_o (yp c) _ (off5_eq c i) (xs m ρ (yp c)) (Gm m ρ c) (Gm m ρ c) fun _ _ => rfl).trans (payR_yp m ρ c i).symm)
  have h₂' : ((mC c h4 i).view.loc (xp c : Thread nD τ) ↦[(mC c h4 i).view.set]{fullShare} ((mC c h4 i).view.write (Elt F) f ((mC c h4 i).view.read (Elt F) (Gm m ρ c)) Finset.univ))
      ⊢ payR m ρ (xp c) i 3 :=
    Entails.of_eq ((landed_o (xp c) _ (off5_eq c i) f (Gm m ρ c) (Gm m ρ c) fun _ _ => rfl).trans (payR_xp m ρ c i).symm)
  have hN2 : (mC c h4 i).view.amount (SemLoc.dma (rcvS 2 i)) = N := rfl
  have hN3 : (mC c h4 i).view.amount (SemLoc.dma (rcvS 3 i)) = N := rfl
  iapply (wp_snd m ρ Kn c (dev39_eq c h4) 2 i hs2 hr2 (src := mC c h4 i) (dst := mC c h4 i) hN2 (fs := Gm m ρ c) (fd := xs m ρ (yp c)) (q := fullShare.left)
    ((xp c, some (1, 3, i)) :: l) (P := oPts c (hf c) i fullShare.left (Gm m ρ c)) (P' := oPts (yp c) (hf c) i fullShare (xs m ρ (yp c)))
    (h₀ _) h₀y h₁ h₂) $$ [Hol Hy HO Ht2 Ht2']
  · isplitr; · iexact Hc
    isplitl [Hol]; · iexact Hol
    isplitl [Hy]; · iexact Hy
    isplitl [HO]; · iexact HO
    isplitl [Ht2] <;> iassumption
  iintro ⟨Hcr2, HO⟩
  have hs3 : used c (0, 3, i) := trivial
  have hr3 : used (xp c) (1, 3, i) := trivial
  iapply (wp_snd m ρ Kn c (dev40_eq c h4) 3 i hs3 hr3 (src := mC c h4 i) (dst := mC c h4 i) hN3 (fs := Gm m ρ c) (fd := f) (q := fullShare.right)
    l (P := oPts c (hf c) i fullShare.right (Gm m ρ c)) (P' := oPts (xp c) (hf c) i fullShare f)
    (h₀ _) h₀x h₁' h₂') $$ [Hor Hx HO Ht3 Ht3']
  · isplitr; · iexact Hc
    isplitl [Hor]; · iexact Hor
    isplitl [Hx]; · iexact Hx
    isplitl [HO]; · iexact HO
    isplitl [Ht3] <;> iassumption
  iintro ⟨Hcr3, HO⟩
  iapply Hk
  isplitl [HO]; · iexact HO
  isplitl [Hb]; · iexact Hb
  isplitl [Hcr2] <;> iassumption

/-- What a middle device starts the chunk `i` with, and what it has after it. -/
def midPre (i : Fin 16) : sProp 𝕄 :=
  iprop((crd c (1, 0, i) ∗ pos c (some (1, 0, i)) ∗ crd c (1, 1, i) ∗ pos c (some (1, 1, i)) ∗ pos c (some (0, 1, i))
      ∗ (∃ f, oPts c (hf c) i fullShare f) ∗ (∃ f, bPts (op c) i f) ∗ tok c (0, 1, i) ∗ tok (op c) (1, 1, i))
    ∗ ((∃ f, oPts (xp c) (hf c) i fullShare f) ∗ tok c (0, 2, i) ∗ tok (yp c) (1, 2, i) ∗ tok c (0, 3, i) ∗ tok (xp c) (1, 3, i)))
def midPost (i : Fin 16) : sProp 𝕄 :=
  iprop(zer c (some (1, 0, i)) ∗ zer c (some (1, 1, i)) ∗ zer c (some (0, 1, i))
    ∗ aPts c i (Am m ρ c) ∗ bPts c i (Bm m ρ c) ∗ crd c (0, 2, i) ∗ crd c (0, 3, i))

/-- The loop's step. -/
theorem mid12_step (i : Fin 16) (l : List (Fin 16)) (hl : ∀ j ∈ l, i < j) (k : PUnit → PM F PUnit) (Q : PUnit → sProp 𝕄) :
    iprop(ctx m ρ Kn ∗ xPts m ρ c ∗ ow c (owM c (i :: l)) ∗ midPre c i)
      ⊢ iprop(((xPts m ρ c ∗ ow c (owM c l) ∗ midPost m ρ c i) -∗ WP c (k ⟨⟩) Q) -∗ WP c (mid12 c h4 i >>= k) Q) := by
  have hprog : (mid12 (F := F) c h4 i >>= k) = (mid1 c h4 i >>= fun _ => mid2 c h4 i >>= k) := Prog.bind_assoc _ _ _
  have how : ow (F := F) c (owM c (i :: l)) = ow c ((op c, some (1, 1, i)) :: (yp c, some (1, 2, i)) :: (xp c, some (1, 3, i)) :: owM c l) := rfl
  have hlv : ∀ p ∈ (yp c, some ((1, 2, i) : OC)) :: (xp c, some ((1, 3, i) : OC)) :: owM c l, lvK (some (1, 1, i)) < lvK p.2 := by
    have hi := i.isLt
    intro p hp
    simp only [List.mem_cons] at hp
    rcases hp with rfl | rfl | hp
    · show 3 + i.val < 30; omega
    · show 3 + i.val < 31; omega
    · exact owM_lv (b := 3 + i.val) (by omega) (fun j hj => by have : i.val < j.val := hl j hj; omega) p hp
  rw [hprog, how]
  unfold midPre midPost
  iintro ⟨#Hc, Hx, HO, H1, ⟨Hox, Ht2, Ht2', Ht3, Ht3'⟩⟩ Hk
  iapply (mid1_step m ρ Kn c h4 hM i _ hlv) $$ [Hx HO H1]
  · isplitr; · iexact Hc
    isplitl [Hx]; · iexact Hx
    isplitl [HO] <;> iassumption
  iintro ⟨Hx, HO, Hz0, Hz1, Hz2, Ha, Hb, Ho, Hy⟩
  iapply (mid2_step m ρ Kn c h4 hM i (owM c l)) $$ [HO Hb Ho Hy Hox Ht2 Ht2' Ht3 Ht3']
  · isplitr; · iexact Hc
    isplitl [HO]; · iexact HO
    isplitl [Hb]; · iexact Hb
    isplitl [Ho]; · iexact Ho
    isplitl [Hy]; · iexact Hy
    isplitl [Hox]; · iexact Hox
    isplitl [Ht2]; · iexact Ht2
    isplitl [Ht2']; · iexact Ht2'
    isplitl [Ht3] <;> iassumption
  iintro ⟨HO, Hb, Hcr2, Hcr3⟩
  iapply Hk
  isplitl [Hx]; · iexact Hx
  isplitl [HO]; · iexact HO
  isplitl [Hz0]; · iexact Hz0
  isplitl [Hz1]; · iexact Hz1
  isplitl [Hz2]; · iexact Hz2
  isplitl [Ha]; · iexact Ha
  isplitl [Hb]; · iexact Hb
  isplitl [Hcr2] <;> iassumption

end Cert.ReduceProof

end
-- ==== Proof.Parts.lean ====
/-
# What a device starts the kernel with, what it ends it with, and the pieces of both
-/
module

public import proofs.«01_k».proof.Proof.Steps2

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (Kn : Dev nD × KC → ℕ)

section Big
omit [FloatOps F]
theorem bigSep_option {A : Type} [Fintype A] [DecidableEq A] (Φ : Option A → sProp 𝕄) :
    bigSep Finset.univ Φ = iprop(Φ none ∗ bigSep Finset.univ fun a : A => Φ (some a)) := by
  have h : (Finset.univ : Finset (Option A)) = insert none (Finset.univ.map Function.Embedding.some) := by
    ext a; cases a <;> simp
  rw [h, bigSep_insert (by simp), BI.bigSep_map]; rfl
theorem bigSep_two (Φ : Fin 2 → sProp 𝕄) : bigSep Finset.univ Φ = iprop(Φ 0 ∗ Φ 1) := bigSep_univ_eq_bigSepL [0, 1] (by decide) (by decide) Φ
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

/-- Over the sixteen chunks. -/
abbrev b16 (Φ : Fin 16 → sProp 𝕄) : sProp 𝕄 := bigSep Finset.univ Φ

theorem bigSep_phases (Φ : Fin 4 × Fin 16 → sProp 𝕄) :
    bigSep Finset.univ Φ = iprop(b16 (fun i => Φ (0, i)) ∗ b16 (fun i => Φ (1, i)) ∗ b16 (fun i => Φ (2, i)) ∗ b16 (fun i => Φ (3, i))) := by
  rw [bigSep_univ_prod, bigSep_four]
/-- All cells of a device: the barrier cell, the four phases' send cells, the four phases' receive cells. -/
theorem bigSep_cells (Φ : KC → sProp 𝕄) :
    bigSep Finset.univ Φ = iprop(Φ none ∗ (b16 (fun i => Φ (some (0, 0, i))) ∗ b16 (fun i => Φ (some (0, 1, i))) ∗ b16 (fun i => Φ (some (0, 2, i))) ∗ b16 (fun i => Φ (some (0, 3, i))))
      ∗ (b16 (fun i => Φ (some (1, 0, i))) ∗ b16 (fun i => Φ (some (1, 1, i))) ∗ b16 (fun i => Φ (some (1, 2, i))) ∗ b16 (fun i => Φ (some (1, 3, i))))) := by
  rw [bigSep_option, bigSep_univ_prod, bigSep_two, bigSep_phases, bigSep_phases]

theorem b16_two (A B : Fin 16 → sProp 𝕄) : iprop(b16 A ∗ b16 B) = b16 (fun i => iprop(A i ∗ B i)) := (bigSep_sep Finset.univ A B).symm
theorem b16_mono {A B : Fin 16 → sProp 𝕄} (h : ∀ i, A i ⊢ B i) : b16 A ⊢ b16 B := bigSep_mono fun i _ => h i

/-- A persistent fact goes to every chunk. -/
theorem b16_with {R : sProp 𝕄} [BI.Persistent R] {Φ Ψ : Fin 16 → sProp 𝕄} (h : ∀ i, iprop(R ∗ Φ i) ⊢ Ψ i) : iprop(R ∗ b16 Φ) ⊢ b16 Ψ :=
  (sep_mono_left (BI.bigSep_of_persistent Finset.univ R)).trans ((Entails.of_eq (bigSep_sep Finset.univ (fun _ => R) Φ).symm).trans (bigSep_mono fun i _ => h i))
end Big

/-! ## Buffers and chunks -/

section Chunks
omit [FloatOps F]

/-- Elements that make up sixteen disjoint sets are held together or set by set. -/
theorem pts_chunks {ℓ : Loc nD τ sig} {q : PosShare TreeShare} (S : Finset (Idx ℓ)) (K : Fin 16 → Finset (Idx ℓ)) (hS : ∀ j, j ∈ S ↔ ∃ i, j ∈ K i)
    (hd : ∀ i i', i ≠ i' → Disjoint (K i) (K i')) (f : Buf (Elt F) ℓ) :
    (ℓ ↦[S]{q} f : sProp 𝕄) = b16 fun i => ℓ ↦[K i]{q} f := by
  classical
  have h : S = Finset.univ.biUnion K := by
    ext j; rw [hS, Finset.mem_biUnion]; simp
  rw [h]
  exact pointsTo_biUnion Finset.univ K fun i _ i' _ hne => hd i i' hne
/-- Elements that make up two disjoint sets are held together or as the two. -/
theorem pts_two {ℓ : Loc nD τ sig} {q : PosShare TreeShare} (S A B : Finset (Idx ℓ)) (hS : ∀ j, j ∈ S ↔ j ∈ A ∨ j ∈ B)
    (hd : Disjoint A B) (f : Buf (Elt F) ℓ) :
    (ℓ ↦[S]{q} f : sProp 𝕄) ⊣⊢ iprop((ℓ ↦[A]{q} f) ∗ ℓ ↦[B]{q} f) := by
  classical
  have h : S = A ∪ B := by
    ext j; rw [hS, Finset.mem_union]
  rw [h]
  exact pointsTo_union hd

theorem half_chunks (c : Dev nD) (h : Fin 2) (f : XB F) :
    (oM.view.loc (c : Thread nD τ) ↦[hS h]{fullShare} f : sProp 𝕄) = b16 fun i => oPts c h i fullShare f :=
  pts_chunks (ℓ := oM.view.loc (c : Thread nD τ)) (q := fullShare) (hS h) (oS h) (fun j => by unfold hS; rw [Finset.mem_biUnion]; simp) (fun i i' hne => oS_disjoint fun he => hne (Prod.ext_iff.mp he).2) f
theorem lS_all (j : S2048x1024.Idx) : ∃ i, j ∈ lS i := by
  have h := Finset.mem_univ j
  rw [lS_cover, Finset.mem_biUnion] at h
  obtain ⟨i, -, hi⟩ := h
  exact ⟨i, hi⟩
theorem a_chunks (c : Dev nD) (f : LB F) :
    (aM.view.loc (c : Thread nD τ) ↦[Finset.univ]{fullShare} f : sProp 𝕄) = b16 fun i => aPts c i f :=
  pts_chunks (ℓ := aM.view.loc (c : Thread nD τ)) (q := fullShare) Finset.univ lS (fun j => ⟨fun _ => lS_all j, fun _ => Finset.mem_univ j⟩) (fun i i' hne => lS_disjoint hne) f
theorem b_chunks (c : Dev nD) (f : LB F) :
    (bM.view.loc (c : Thread nD τ) ↦[Finset.univ]{fullShare} f : sProp 𝕄) = b16 fun i => bPts c i f :=
  pts_chunks (ℓ := bM.view.loc (c : Thread nD τ)) (q := fullShare) Finset.univ lS (fun j => ⟨fun _ => lS_all j, fun _ => Finset.mem_univ j⟩) (fun i i' hne => lS_disjoint hne) f

/-- A buffer known only to exist is its chunks known only to exist. -/
theorem oHalf_chunks (c : Dev nD) (h : Fin 2) : oHalf (F := F) c h ⊢ b16 fun i => iprop(∃ f, oPts c h i fullShare f) := by
  have e : ∀ f : XB F, (oM.view.loc (c : Thread nD τ) ↦[hS h]{fullShare} f : sProp 𝕄) ⊢ b16 fun i => iprop(∃ f, oPts c h i fullShare f) := fun f =>
    (Entails.of_eq (half_chunks c h f)).trans (b16_mono fun i => exists_intro f)
  unfold oHalf
  iintro ⟨%f, H⟩
  iapply (e f); iexact H
theorem aAll_chunks (c : Dev nD) : aAll (F := F) c ⊢ b16 fun i => iprop(∃ f, aPts c i f) := by
  have e : ∀ f : LB F, (aM.view.loc (c : Thread nD τ) ↦[Finset.univ]{fullShare} f : sProp 𝕄) ⊢ b16 fun i => iprop(∃ f, aPts c i f) := fun f =>
    (Entails.of_eq (a_chunks c f)).trans (b16_mono fun i => exists_intro f)
  unfold aAll
  iintro ⟨%f, H⟩
  iapply (e f); iexact H
theorem bAll_chunks (c : Dev nD) : bAll (F := F) c ⊢ b16 fun i => iprop(∃ f, bPts c i f) := by
  have e : ∀ f : LB F, (bM.view.loc (c : Thread nD τ) ↦[Finset.univ]{fullShare} f : sProp 𝕄) ⊢ b16 fun i => iprop(∃ f, bPts c i f) := fun f =>
    (Entails.of_eq (b_chunks c f)).trans (b16_mono fun i => exists_intro f)
  unfold bAll
  iintro ⟨%f, H⟩
  iapply (e f); iexact H
/-- The chunks of a landing buffer, at one contents, are the buffer again. -/
theorem aAll_join (c : Dev nD) (f : LB F) : (b16 fun i => aPts c i f) ⊢ aAll c :=
  (Entails.of_eq (a_chunks c f).symm).trans (exists_intro f)
theorem bAll_join (c : Dev nD) (f : LB F) : (b16 fun i => bPts c i f) ⊢ bAll c :=
  (Entails.of_eq (b_chunks c f).symm).trans (exists_intro f)

/-- The result buffer of `c`, whole. -/
def oAll (c : Dev nD) (f : XB F) : sProp 𝕄 := oM.view.loc (c : Thread nD τ) ↦[Finset.univ]{fullShare} f

theorem hf_ne (c : Dev nD) : hf c ≠ oh c := fun h => oh_ne c h.symm
theorem o_two (c : Dev nD) (f : XB F) : oAll c f ⊣⊢ iprop((oM.view.loc (c : Thread nD τ) ↦[hS (hf c)]{fullShare} f) ∗ (oM.view.loc (c : Thread nD τ) ↦[hS (oh c)]{fullShare} f)) :=
  pts_two (ℓ := oM.view.loc (c : Thread nD τ)) (q := fullShare) Finset.univ (hS (hf c)) (hS (oh c)) (fun j => ⟨fun hj => by rw [hS_cover c, Finset.mem_union] at hj; exact hj, fun _ => Finset.mem_univ j⟩)
    (hS_disjoint (hf_ne c)) f
theorem oAll_halves (c : Dev nD) (f : XB F) : oAll c f ⊢ iprop(oHalf c (hf c) ∗ oHalf c (oh c)) :=
  (o_two c f).1.trans (BI.Laws.sep_mono (exists_intro f) (exists_intro f))
/-- The chunks of both halves, at one contents, are the whole. -/
theorem oAll_join (c : Dev nD) (f : XB F) : iprop((b16 fun i => oPts c (hf c) i fullShare f) ∗ (b16 fun i => oPts c (oh c) i fullShare f)) ⊢ oAll c f :=
  (BI.Laws.sep_mono (Entails.of_eq (half_chunks c (hf c) f).symm) (Entails.of_eq (half_chunks c (oh c) f).symm)).trans (o_two c f).2
end Chunks

/-! ## Start and end -/

/-- The device that a send of phase `ph` goes to. -/
def pee (c : Dev nD) : Fin 4 → Dev nD
  | 0 => yp c | 1 => op c | 2 => yp c | 3 => xp c

omit [FloatOps F] in
/-- The tokens of the duties a device pays. -/
def payToks (c : Dev nD) : sProp 𝕄 :=
  iprop((dutyTok ER (kcell (yp c, none)) 0 0 ∗ dutyTok ER (kcell (xp c, none)) 0 1 ∗ dutyTok ER (kcell (op c, none)) 0 2)
    ∗ (bigSep Finset.univ fun pi : Fin 4 × Fin 16 => tok c (0, pi.1, pi.2))
    ∗ (bigSep Finset.univ fun pi : Fin 4 × Fin 16 => tok (pee c pi.1) (1, pi.1, pi.2)))
omit [FloatOps F] in
open Classical in
/-- The credit it may wait with. -/
def creds (c : Dev nD) : sProp 𝕄 :=
  iprop(cred (tallyAt (kcell (c, none)) () (duts c none).card)
    ∗ bigSep Finset.univ fun pi : Fin 4 × Fin 16 => if rUse c pi.1 then crd c (1, pi.1, pi.2) else iprop(emp))

/-- What a device starts with. -/
def start (c : Dev nD) : sProp 𝕄 :=
  iprop((∃ Kn, ctx m ρ Kn) ∗ (bigSep Finset.univ fun k : KC => pos c k) ∗ payToks c ∗ creds c)

/-- What it ends with: its cells at zero, its landing buffers, `x`, the result. -/
def done (c : Dev nD) : sProp 𝕄 :=
  iprop((bigSep Finset.univ fun k : KC => zer c k) ∗ aAll c ∗ bAll c ∗ xPts m ρ c ∗ oAll c (Gm m ρ c) ∗ ow c [])

variable (Kn : Dev nD × KC → ℕ)

/-- A cell no one pays is closed at once. -/
theorem close_unused (c : Dev nD) (kc : Fin 16 → OC) (hu : ∀ i, ¬ used c (kc i)) :
    iprop(ctx m ρ Kn ∗ b16 fun i => pos c (some (kc i))) ⊢ |={Set.univ}=> b16 fun i => zer c (some (kc i)) := by
  refine (b16_with (Ψ := fun i => iprop(|={Set.univ}=> zer c (some (kc i)))) fun i => ?_).trans (bigSep_fupd _ _)
  have hd : ∀ r, 0 ≤ r → (Rd (F := F) m ρ).duties (kcell (c, some (kc i))) r = ∅ := by
    intro r _
    rcases Nat.eq_zero_or_pos r with rfl | hr
    · rw [duties_eq m ρ c (some (kc i)), duts_unused (hu i)]
    · exact duties_later m ρ _ r hr
  iintro ⟨#Hc, Hat⟩
  iapply (Rounds.cell_close ER (Rd m ρ) (Set.mem_univ (Kn (c, some (kc i)))) (fun h => h) (R := 0) hd)
  isplitr; · iapply (ctx_inv m ρ Kn (c, some (kc i))); iexact Hc
  iexact Hat

/-- The loop rule over all sixteen chunks. -/
theorem wp_loop16 (c : Dev nD) {R : sProp 𝕄} (f : Fin 16 → PM F PUnit) (o : List (Fin 16) → List (Dev nD × KC)) (Pre Post : Fin 16 → sProp 𝕄)
    (Q : PUnit → sProp 𝕄)
    (step : ∀ i l (k : PUnit → PM F PUnit), (∀ j ∈ l, i < j) →
      iprop(ctx m ρ Kn ∗ R ∗ ow c (o (i :: l)) ∗ Pre i) ⊢ iprop(((R ∗ ow c (o l) ∗ Post i) -∗ WP c (k ⟨⟩) Q) -∗ WP c (f i >>= k) Q)) (p : PM F PUnit) :
    iprop(ctx m ρ Kn ∗ R ∗ ow c (o chunks) ∗ b16 Pre) ⊢ iprop(((R ∗ ow c (o []) ∗ b16 Post) -∗ WP c p Q) -∗ WP c (loop f chunks p) Q) := by
  unfold b16
  rw [bigSep_chunks Pre, bigSep_chunks Post]
  exact wp_loop c f o Pre Post Q step p chunks (by decide)

end Cert.ReduceProof

end
-- ==== Proof.Head.lean ====
/-
# The handshake at entry and the split of what a device starts with
-/
module

public import proofs.«01_k».proof.Proof.Parts

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (Kn : Dev nD × KC → ℕ)

/-- Two families over the chunks are one family of pairs. -/
theorem b16_sep (A B : Fin 16 → sProp 𝕄) : iprop(b16 A ∗ b16 B) ⊢ b16 (fun i => iprop(A i ∗ B i)) := Entails.of_eq (b16_two A B)
theorem b16_unsep (A B : Fin 16 → sProp 𝕄) : b16 (fun i => iprop(A i ∗ B i)) ⊢ iprop(b16 A ∗ b16 B) := Entails.of_eq (b16_two A B).symm

/-! ## Splits -/

section Split
variable (c : Dev nD)
omit [FloatOps F]

theorem pos_split : (bigSep Finset.univ fun k : KC => (pos c k : sProp 𝕄)) ⊢
    iprop(pos c none ∗ (b16 (fun i => pos c (some (0, 0, i))) ∗ b16 (fun i => pos c (some (0, 1, i))) ∗ b16 (fun i => pos c (some (0, 2, i))) ∗ b16 (fun i => pos c (some (0, 3, i))))
      ∗ (b16 (fun i => pos c (some (1, 0, i))) ∗ b16 (fun i => pos c (some (1, 1, i))) ∗ b16 (fun i => pos c (some (1, 2, i))) ∗ b16 (fun i => pos c (some (1, 3, i))))) :=
  Entails.of_eq (bigSep_cells _)
theorem zer_join :
    iprop(zer c none ∗ (b16 (fun i => zer c (some (0, 0, i))) ∗ b16 (fun i => zer c (some (0, 1, i))) ∗ b16 (fun i => zer c (some (0, 2, i))) ∗ b16 (fun i => zer c (some (0, 3, i))))
      ∗ (b16 (fun i => zer c (some (1, 0, i))) ∗ b16 (fun i => zer c (some (1, 1, i))) ∗ b16 (fun i => zer c (some (1, 2, i))) ∗ b16 (fun i => zer c (some (1, 3, i)))))
      ⊢ bigSep Finset.univ fun k : KC => (zer c k : sProp 𝕄) :=
  Entails.of_eq (bigSep_cells fun k : KC => (zer c k : sProp 𝕄)).symm
theorem toks_split : payToks (F := F) c ⊢
    iprop((dutyTok ER (kcell (yp c, none)) 0 0 ∗ dutyTok ER (kcell (xp c, none)) 0 1 ∗ dutyTok ER (kcell (op c, none)) 0 2)
      ∗ (b16 (fun i => tok c (0, 0, i)) ∗ b16 (fun i => tok c (0, 1, i)) ∗ b16 (fun i => tok c (0, 2, i)) ∗ b16 (fun i => tok c (0, 3, i)))
      ∗ (b16 (fun i => tok (yp c) (1, 0, i)) ∗ b16 (fun i => tok (op c) (1, 1, i)) ∗ b16 (fun i => tok (yp c) (1, 2, i)) ∗ b16 (fun i => tok (xp c) (1, 3, i)))) := by
  have h1 : (bigSep Finset.univ fun pi : Fin 4 × Fin 16 => (tok c (0, pi.1, pi.2) : sProp 𝕄)) ⊢
      iprop(b16 (fun i => tok c (0, 0, i)) ∗ b16 (fun i => tok c (0, 1, i)) ∗ b16 (fun i => tok c (0, 2, i)) ∗ b16 (fun i => tok c (0, 3, i))) :=
    Entails.of_eq (bigSep_phases _)
  have h2 : (bigSep Finset.univ fun pi : Fin 4 × Fin 16 => (tok (pee c pi.1) (1, pi.1, pi.2) : sProp 𝕄)) ⊢
      iprop(b16 (fun i => tok (yp c) (1, 0, i)) ∗ b16 (fun i => tok (op c) (1, 1, i)) ∗ b16 (fun i => tok (yp c) (1, 2, i)) ∗ b16 (fun i => tok (xp c) (1, 3, i))) :=
    Entails.of_eq (bigSep_phases _)
  exact BI.Laws.sep_mono .rfl (BI.Laws.sep_mono h1 h2)

theorem duts_end (h : IsEnd c) : duts c none = {0, 1} := if_pos h
theorem duts_mid (h : ¬ IsEnd c) : duts c none = Finset.univ := if_neg h

open Classical in
theorem creds_end (h : IsEnd c) : creds (F := F) c ⊢
    iprop(cred (tallyAt (kcell (c, none)) () 2) ∗ b16 (fun i => crd c (1, 2, i)) ∗ b16 (fun i => crd c (1, 3, i))) := by
  have h0 : (cred (tallyAt (kcell (c, none)) () (duts c none).card) : sProp 𝕄) ⊢ cred (tallyAt (kcell (c, none)) () 2) :=
    Entails.of_eq (by rw [duts_end c h]; rfl)
  have h2 : ∀ i : Fin 16, (if rUse c 2 then crd c (1, 2, i) else iprop(emp) : sProp 𝕄) ⊢ crd c (1, 2, i) := fun i => Entails.of_eq (if_pos h)
  have h3 : ∀ i : Fin 16, (if rUse c 3 then crd c (1, 3, i) else iprop(emp) : sProp 𝕄) ⊢ crd c (1, 3, i) := fun i => Entails.of_eq (if_pos trivial)
  unfold creds
  refine BI.Laws.sep_mono h0 ((Entails.of_eq (bigSep_phases _)).trans ?_)
  iintro ⟨-, -, H2, H3⟩
  isplitl [H2]
  · iapply (b16_mono h2); iexact H2
  · iapply (b16_mono h3); iexact H3
open Classical in
theorem creds_mid (h : ¬ IsEnd c) : creds (F := F) c ⊢
    iprop(cred (tallyAt (kcell (c, none)) () 3) ∗ b16 (fun i => crd c (1, 0, i)) ∗ b16 (fun i => crd c (1, 1, i)) ∗ b16 (fun i => crd c (1, 3, i))) := by
  have h0 : (cred (tallyAt (kcell (c, none)) () (duts c none).card) : sProp 𝕄) ⊢ cred (tallyAt (kcell (c, none)) () 3) :=
    Entails.of_eq (by rw [duts_mid c h]; rfl)
  have h1 : ∀ i : Fin 16, (if rUse c 0 then crd c (1, 0, i) else iprop(emp) : sProp 𝕄) ⊢ crd c (1, 0, i) := fun i => Entails.of_eq (if_pos h)
  have h2 : ∀ i : Fin 16, (if rUse c 1 then crd c (1, 1, i) else iprop(emp) : sProp 𝕄) ⊢ crd c (1, 1, i) := fun i => Entails.of_eq (if_pos h)
  have h3 : ∀ i : Fin 16, (if rUse c 3 then crd c (1, 3, i) else iprop(emp) : sProp 𝕄) ⊢ crd c (1, 3, i) := fun i => Entails.of_eq (if_pos trivial)
  unfold creds
  refine BI.Laws.sep_mono h0 ((Entails.of_eq (bigSep_phases _)).trans ?_)
  iintro ⟨H1, H2, -, H3⟩
  isplitl [H1]
  · iapply (b16_mono h1); iexact H1
  isplitl [H2]
  · iapply (b16_mono h2); iexact H2
  · iapply (b16_mono h3); iexact H3
end Split

/-! ## The handshake -/

section Hand
variable (c : Dev nD)

/-- An end hands its other half to the device at the other `x`, and takes its half there and the landing buffer of its
    middle device. -/
theorem head_end (hE : IsEnd c) (k : PUnit → PM F PUnit) (Q : PUnit → sProp 𝕄) :
    iprop(ctx m ρ Kn ∗ ow c (owed₀ c) ∗ (dutyTok ER (kcell (yp c, none)) 0 0 ∗ dutyTok ER (kcell (xp c, none)) 0 1)
        ∗ cred (tallyAt (kcell (c, none)) () 2) ∗ pos c none ∗ oHalf c (oh c))
      ⊢ iprop(((ow c (owE c chunks chunks) ∗ zer c none ∗ aAll (yp c) ∗ oHalf (xp c) (hf c)) -∗ WP c (k ⟨⟩) Q) -∗ WP c (head c >>= k) Q) := by
  have h1 : k0_cond1 c = 1#1 := (cond1_iff c).mpr hE
  have h2 : ¬ k0_cond2 c = 1#1 := fun h => (cond2_iff c).mp h hE
  have how : ow (F := F) c (owed₀ c) = ow c ((yp c, none) :: (xp c, none) :: owE c chunks chunks) := by unfold owed₀; rw [if_pos hE]
  have d0 : (0 : Fin 3) ∈ duts (yp c) none := by rw [duts_mid _ (fun h => (end_yp c).mp h hE)]; exact Finset.mem_univ _
  have d1 : (1 : Fin 3) ∈ duts (xp c) none := by rw [duts_end _ ((end_xp c).mpr hE)]; decide
  have p0 : (emp : sProp 𝕄) ⊢ payB (F := F) (yp c) 0 := Entails.of_eq (if_neg (fun h => (end_yp c).mp h hE)).symm
  have p1 : oHalf c (oh c) ⊢ payB (F := F) (xp c) 1 := by
    show _ ⊢ oHalf (xp (xp c)) (hf (xp c)); rw [xp_xp, hf_xp]
  have hw : ∀ K : PUnit → sProp 𝕄, wpE (defs₀ (F := F)) 𝒱₀ (c : Thread nD τ) none Set.univ (.semWait barS 2) K
      = waitSpec (c : Thread nD τ) Set.univ (csem none) 2 K := fun K => wpE_semWait_eq 𝒱₀ (c : Thread nD τ) none Set.univ K
  have hn : 2 = (duts c none).card * amt none := by rw [duts_end c hE]; rfl
  have hpay : (bigSep (duts c none) fun d => pay m ρ c d none) ⊢ iprop(aAll (yp c) ∗ oHalf (xp c) (hf c)) := by
    rw [duts_end c hE, show ({0, 1} : Finset (Fin 3)) = insert 0 {1} from rfl, bigSep_insert (by decide), bigSep_singleton]
    exact BI.Laws.sep_mono (Entails.of_eq (if_pos hE)) .rfl
  rw [how]
  unfold head
  rw [dif_pos h1, dif_neg h2]
  iintro ⟨#Hc, HO, ⟨Ht0, Ht1⟩, Hcr, Hat, Ho⟩ Hk
  simp only [semSignalWord, semWaitWord, Prog.lift, Prog.bind_op, Prog.bind_ret, Prog.pure_eq_ret]
  iapply (wp_sig m ρ Kn c (dev1_eq c h1) 0 d0 ((xp c, none) :: owE c chunks chunks)) $$ [HO Ht0]
  · isplitr; · iexact Hc
    isplitl [HO]; · iexact HO
    isplitl [Ht0]; · iexact Ht0
    iapply p0; iempintro
  iintro HO
  iapply (wp_sig m ρ Kn c (dev2_eq c h1) 1 d1 (owE c chunks chunks)) $$ [HO Ht1 Ho]
  · isplitr; · iexact Hc
    isplitl [HO]; · iexact HO
    isplitl [Ht1]; · iexact Ht1
    iapply p1; iexact Ho
  iintro HO
  iapply (wp_wt m ρ Kn c none 2 hn hw (owE c chunks chunks) owE_lv) $$ [HO Hcr Hat]
  · isplitr; · iexact Hc
    isplitl [Hcr]; · iexact Hcr
    isplitl [HO] <;> iassumption
  iintro ⟨HO, Hz, Hp⟩
  ihave Hp := hpay $$ Hp
  icases Hp with ⟨Ha, Ho⟩
  iapply Hk
  isplitl [HO]; · iexact HO
  isplitl [Hz]; · iexact Hz
  isplitl [Ha] <;> iassumption

/-- A middle device hands its landing buffers to its end and to the other middle device, its other half to the device at
    the other `x`. -/
theorem head_mid (hM : ¬ IsEnd c) (k : PUnit → PM F PUnit) (Q : PUnit → sProp 𝕄) :
    iprop(ctx m ρ Kn ∗ ow c (owed₀ c) ∗ (dutyTok ER (kcell (yp c, none)) 0 0 ∗ dutyTok ER (kcell (xp c, none)) 0 1 ∗ dutyTok ER (kcell (op c, none)) 0 2)
        ∗ cred (tallyAt (kcell (c, none)) () 3) ∗ pos c none ∗ oHalf c (oh c) ∗ aAll c ∗ bAll c)
      ⊢ iprop(((ow c (owM c chunks) ∗ zer c none ∗ oHalf (xp c) (hf c) ∗ bAll (op c)) -∗ WP c (k ⟨⟩) Q) -∗ WP c (head c >>= k) Q) := by
  have h1 : ¬ k0_cond1 c = 1#1 := fun h => hM ((cond1_iff c).mp h)
  have h2 : k0_cond2 c = 1#1 := (cond2_iff c).mpr hM
  have how : ow (F := F) c (owed₀ c) = ow c ((yp c, none) :: (op c, none) :: (xp c, none) :: owM c chunks) := by unfold owed₀; rw [if_neg hM]
  have hEy : IsEnd (yp c) := (end_yp c).mpr hM
  have d0 : (0 : Fin 3) ∈ duts (yp c) none := by rw [duts_end _ hEy]; decide
  have d1 : (1 : Fin 3) ∈ duts (xp c) none := by rw [duts_mid _ (fun h => hM ((end_xp c).mp h))]; exact Finset.mem_univ _
  have d2 : (2 : Fin 3) ∈ duts (op c) none := by rw [duts_mid _ (fun h => hM ((end_op c).mp h))]; exact Finset.mem_univ _
  have p0 : aAll c ⊢ payB (F := F) (yp c) 0 := by
    refine .trans ?_ (Entails.of_eq (if_pos hEy).symm); rw [yp_yp]
  have p1 : oHalf c (oh c) ⊢ payB (F := F) (xp c) 1 := by
    show _ ⊢ oHalf (xp (xp c)) (hf (xp c)); rw [xp_xp, hf_xp]
  have p2 : bAll c ⊢ payB (F := F) (op c) 2 := by
    show _ ⊢ bAll (op (op c)); rw [op_op]
  have hw : ∀ K : PUnit → sProp 𝕄, wpE (defs₀ (F := F)) 𝒱₀ (c : Thread nD τ) none Set.univ (.semWait barS 3) K
      = waitSpec (c : Thread nD τ) Set.univ (csem none) 3 K := fun K => wpE_semWait_eq 𝒱₀ (c : Thread nD τ) none Set.univ K
  have hn : 3 = (duts c none).card * amt none := by rw [duts_mid c hM]; rfl
  have hpay : (bigSep (duts c none) fun d => pay m ρ c d none) ⊢ iprop(oHalf (xp c) (hf c) ∗ bAll (op c)) := by
    rw [duts_mid c hM]
    refine (Entails.of_eq (bigSep_univ_eq_bigSepL [0, 1, 2] (by decide) (by decide) fun d => pay m ρ c d none)).trans ?_
    show iprop(payB c 0 ∗ payB c 1 ∗ payB c 2) ⊢ _
    iintro ⟨-, H⟩
    iexact H
  have hlv : ∀ p ∈ owM c chunks, lvK none < lvK p.2 := owM_lv (b := 1) (by decide) (fun i _ => by omega)
  rw [how]
  unfold head
  rw [dif_neg h1, dif_pos h2]
  iintro ⟨#Hc, HO, ⟨Ht0, Ht1, Ht2⟩, Hcr, Hat, Ho, Ha, Hb⟩ Hk
  simp only [semSignalWord, semWaitWord, Prog.lift, Prog.bind_op, Prog.bind_ret, Prog.pure_eq_ret]
  iapply (wp_sig m ρ Kn c (dev3_eq c h2) 0 d0 ((op c, none) :: (xp c, none) :: owM c chunks)) $$ [HO Ht0 Ha]
  · isplitr; · iexact Hc
    isplitl [HO]; · iexact HO
    isplitl [Ht0]; · iexact Ht0
    iapply p0; iexact Ha
  iintro HO
  iapply (wp_sig m ρ Kn c (dev4_eq c h2) 2 d2 ((xp c, none) :: owM c chunks)) $$ [HO Ht2 Hb]
  · isplitr; · iexact Hc
    isplitl [HO]; · iexact HO
    isplitl [Ht2]; · iexact Ht2
    iapply p2; iexact Hb
  iintro HO
  iapply (wp_sig m ρ Kn c (dev5_eq c h2) 1 d1 (owM c chunks)) $$ [HO Ht1 Ho]
  · isplitr; · iexact Hc
    isplitl [HO]; · iexact HO
    isplitl [Ht1]; · iexact Ht1
    iapply p1; iexact Ho
  iintro HO
  iapply (wp_wt m ρ Kn c none 3 hn hw (owM c chunks) hlv) $$ [HO Hcr Hat]
  · isplitr; · iexact Hc
    isplitl [Hcr]; · iexact Hcr
    isplitl [HO] <;> iassumption
  iintro ⟨HO, Hz, Hp⟩
  ihave Hp := hpay $$ Hp
  icases Hp with ⟨Ho, Hb⟩
  iapply Hk
  isplitl [HO]; · iexact HO
  isplitl [Hz]; · iexact Hz
  isplitl [Ho] <;> iassumption
end Hand

end Cert.ReduceProof

end
-- ==== Proof.Loops.lean ====
/-
# The loops of an end device and of a middle device
-/
module

public import proofs.«01_k».proof.Proof.Head

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (Kn : Dev nD × KC → ℕ)

/-- What follows a loop moves into it. -/
theorem loop_bind (f : Fin 16 → PM F PUnit) (p : PM F PUnit) (k : PUnit → PM F PUnit) : ∀ l, (loop f l p >>= k) = loop f l (p >>= k)
  | [] => rfl
  | i :: l => by
    show ((f i >>= fun _ => loop f l p) >>= k) = (f i >>= fun _ => loop f l (p >>= k))
    rw [← loop_bind f p k l]; exact Prog.bind_assoc _ _ _

/-- A loop that waits, for every chunk, on a cell in use. -/
theorem wait_loop (c : Dev nD) (kc : Fin 16 → OC) (hu : ∀ i, used c (kc i)) (g : Fin 16 → PM F PUnit)
    (op : (i : Fin 16) → TpuEff nD τ sig (Elt F) Λ₀ .tc PUnit) (hg : ∀ i (k : PUnit → PM F PUnit), (g i >>= k) = .op (op i) k)
    (hw : ∀ i, ∀ K : PUnit → sProp 𝕄, wpE (defs₀ (F := F)) 𝒱₀ (c : Thread nD τ) none Set.univ (op i) K = waitSpec (c : Thread nD τ) Set.univ (osem (kc i)) N K)
    (p : PM F PUnit) (Q : PUnit → sProp 𝕄) :
    iprop(ctx m ρ Kn ∗ ow c [] ∗ b16 (fun i => crd c (kc i)) ∗ b16 (fun i => pos c (some (kc i))))
      ⊢ iprop(((ow c [] ∗ b16 (fun i => zer c (some (kc i))) ∗ b16 (fun i => pay m ρ c 0 (some (kc i)))) -∗ WP c p Q) -∗ WP c (loop g chunks p) Q) := by
  iintro ⟨#Hc, HO, Hcr, Hat⟩ Hk
  iapply (wp_loop16 m ρ Kn c (R := iprop(emp)) g (fun _ => []) (fun i => iprop(crd c (kc i) ∗ pos c (some (kc i))))
    (fun i => iprop(zer c (some (kc i)) ∗ pay m ρ c 0 (some (kc i)))) Q (fun i l k _ => wait_step m ρ Kn c kc hu g op hg hw i k Q) p) $$ [HO Hcr Hat]
  · isplitr; · iexact Hc
    isplitr; · iempintro
    isplitl [HO]; · iexact HO
    iapply (b16_sep (fun i => crd c (kc i)) (fun i => pos c (some (kc i))))
    isplitl [Hcr] <;> iassumption
  iintro ⟨-, HO, H⟩
  ihave H := (b16_unsep (fun i => zer c (some (kc i))) (fun i => pay m ρ c 0 (some (kc i)))) $$ H
  iapply Hk
  isplitl [HO]; · iexact HO
  iexact H

section End
variable (c : Dev nD) (h3 : k0_cond3 c = 1#1) (hE : IsEnd c)
include hE

theorem end1_loop (p : PM F PUnit) (Q : PUnit → sProp 𝕄) :
    iprop(ctx m ρ Kn ∗ xPts m ρ c ∗ ow c (owE c chunks chunks) ∗ b16 (fun i => iprop(∃ f, oPts c (hf c) i fullShare f)) ∗ b16 (fun i => iprop(∃ f, aPts (yp c) i f))
        ∗ b16 (fun i => tok c (0, 0, i)) ∗ b16 (fun i => tok (yp c) (1, 0, i)))
      ⊢ iprop(((xPts m ρ c ∗ ow c (owE c [] chunks) ∗ b16 (fun i => crd c (0, 0, i))) -∗ WP c p Q) -∗ WP c (loop (end1 c h3) chunks p) Q) := by
  iintro ⟨#Hc, Hx, HO, H1, H2, H3, H4⟩ Hk
  iapply (wp_loop16 m ρ Kn c (R := xPts m ρ c) (end1 c h3) (fun l => owE c l chunks)
    (fun i => iprop((∃ f, oPts c (hf c) i fullShare f) ∗ (∃ f, aPts (yp c) i f) ∗ tok c (0, 0, i) ∗ tok (yp c) (1, 0, i)))
    (fun i => crd c (0, 0, i)) Q (fun i l k _ => end1_step m ρ Kn c h3 hE i l k Q) p) $$ [Hx HO H1 H2 H3 H4]
  · isplitr; · iexact Hc
    isplitl [Hx]; · iexact Hx
    isplitl [HO]; · iexact HO
    iapply (b16_sep (fun i => iprop(∃ f, oPts c (hf c) i fullShare f)) (fun i => iprop((∃ f, aPts (yp c) i f) ∗ tok c (0, 0, i) ∗ tok (yp c) (1, 0, i))))
    isplitl [H1]; · iexact H1
    iapply (b16_sep (fun i => iprop(∃ f, aPts (yp c) i f)) (fun i => iprop(tok c (0, 0, i) ∗ tok (yp c) (1, 0, i))))
    isplitl [H2]; · iexact H2
    iapply (b16_sep (fun i => tok c (0, 0, i)) (fun i => tok (yp c) (1, 0, i)))
    isplitl [H3] <;> iassumption
  iintro ⟨Hx, HO, H⟩
  iapply Hk
  isplitl [Hx]; · iexact Hx
  isplitl [HO] <;> iassumption

theorem end2_loop (p : PM F PUnit) (Q : PUnit → sProp 𝕄) :
    iprop(ctx m ρ Kn ∗ ow c (owE c [] chunks) ∗ b16 (fun i => crd c (1, 2, i)) ∗ b16 (fun i => pos c (some (1, 2, i)))
        ∗ b16 (fun i => iprop(∃ f, oPts (xp c) (hf c) i fullShare f)) ∗ b16 (fun i => tok c (0, 3, i)) ∗ b16 (fun i => tok (xp c) (1, 3, i)))
      ⊢ iprop(((ow c [] ∗ b16 (fun i => zer c (some (1, 2, i))) ∗ b16 (fun i => crd c (0, 3, i))) -∗ WP c p Q) -∗ WP c (loop (end2 c h3) chunks p) Q) := by
  iintro ⟨#Hc, HO, H1, H2, H3, H4, H5⟩ Hk
  iapply (wp_loop16 m ρ Kn c (R := iprop(emp)) (end2 c h3) (fun l => owE c [] l)
    (fun i => iprop(crd c (1, 2, i) ∗ pos c (some (1, 2, i)) ∗ (∃ f, oPts (xp c) (hf c) i fullShare f) ∗ tok c (0, 3, i) ∗ tok (xp c) (1, 3, i)))
    (fun i => iprop(zer c (some (1, 2, i)) ∗ crd c (0, 3, i))) Q (fun i l k _ => end2_step m ρ Kn c h3 hE i l k Q) p) $$ [HO H1 H2 H3 H4 H5]
  · isplitr; · iexact Hc
    isplitr; · iempintro
    isplitl [HO]; · iexact HO
    iapply (b16_sep (fun i => crd c (1, 2, i)) (fun i => iprop(pos c (some (1, 2, i)) ∗ (∃ f, oPts (xp c) (hf c) i fullShare f) ∗ tok c (0, 3, i) ∗ tok (xp c) (1, 3, i))))
    isplitl [H1]; · iexact H1
    iapply (b16_sep (fun i => pos c (some (1, 2, i))) (fun i => iprop((∃ f, oPts (xp c) (hf c) i fullShare f) ∗ tok c (0, 3, i) ∗ tok (xp c) (1, 3, i))))
    isplitl [H2]; · iexact H2
    iapply (b16_sep (fun i => iprop(∃ f, oPts (xp c) (hf c) i fullShare f)) (fun i => iprop(tok c (0, 3, i) ∗ tok (xp c) (1, 3, i))))
    isplitl [H3]; · iexact H3
    iapply (b16_sep (fun i => tok c (0, 3, i)) (fun i => tok (xp c) (1, 3, i)))
    isplitl [H4] <;> iassumption
  iintro ⟨-, HO, H⟩
  ihave H := (b16_unsep (fun i => zer c (some (1, 2, i))) (fun i => crd c (0, 3, i))) $$ H
  iapply Hk
  isplitl [HO]; · iexact HO
  iexact H

/-- All five loops of an end device. -/
theorem end_loops (p : PM F PUnit) (Q : PUnit → sProp 𝕄) :
    iprop(ctx m ρ Kn ∗ xPts m ρ c ∗ ow c (owE c chunks chunks)
        ∗ (b16 (fun i => iprop(∃ f, oPts c (hf c) i fullShare f)) ∗ b16 (fun i => iprop(∃ f, aPts (yp c) i f)) ∗ b16 (fun i => iprop(∃ f, oPts (xp c) (hf c) i fullShare f)))
        ∗ (b16 (fun i => tok c (0, 0, i)) ∗ b16 (fun i => tok (yp c) (1, 0, i)) ∗ b16 (fun i => tok c (0, 3, i)) ∗ b16 (fun i => tok (xp c) (1, 3, i)))
        ∗ (b16 (fun i => crd c (1, 2, i)) ∗ b16 (fun i => crd c (1, 3, i)))
        ∗ (b16 (fun i => pos c (some (1, 2, i))) ∗ b16 (fun i => pos c (some (1, 3, i))) ∗ b16 (fun i => pos c (some (0, 0, i))) ∗ b16 (fun i => pos c (some (0, 3, i)))))
      ⊢ iprop(((xPts m ρ c ∗ ow c []
          ∗ (b16 (fun i => zer c (some (1, 2, i))) ∗ b16 (fun i => zer c (some (1, 3, i))) ∗ b16 (fun i => zer c (some (0, 0, i))) ∗ b16 (fun i => zer c (some (0, 3, i))))
          ∗ (b16 (fun i => oPts c (hf c) i fullShare (Gm m ρ c)) ∗ b16 (fun i => oPts c (oh c) i fullShare (Gm m ρ c)))) -∗ WP c p Q)
        -∗ WP c (loop (end1 c h3) chunks <| loop (end2 c h3) chunks <| loop (end3 c h3) chunks <| loop (end4 c h3) chunks <| loop (end5 c h3) chunks p) Q) := by
  have u13 : ∀ i : Fin 16, used c (1, 3, i) := fun _ => trivial
  have u00 : ∀ i : Fin 16, used c (0, 0, i) := fun _ => hE
  have u03 : ∀ i : Fin 16, used c (0, 3, i) := fun _ => trivial
  have hx : b16 (fun i => pay m ρ c 0 (some (0, 3, i))) ⊢ b16 (fun i => oPts c (hf c) i fullShare (Gm m ρ c)) := b16_mono fun i => by
    show oPts c (hf c) i (shX c) (Gm m ρ c) ⊢ _
    rw [show shX c = fullShare from if_pos hE]
  iintro ⟨#Hc, Hx, HO, ⟨Ho, Ha, Hox⟩, ⟨Ht1, Ht2, Ht3, Ht4⟩, ⟨Hc2, Hc3⟩, ⟨Hp12, Hp13, Hp00, Hp03⟩⟩ Hk
  iapply (end1_loop m ρ Kn c h3 hE) $$ [Hx HO Ho Ha Ht1 Ht2]
  · isplitr; · iexact Hc
    isplitl [Hx]; · iexact Hx
    isplitl [HO]; · iexact HO
    isplitl [Ho]; · iexact Ho
    isplitl [Ha]; · iexact Ha
    isplitl [Ht1] <;> iassumption
  iintro ⟨Hx, HO, Hc00⟩
  iapply (end2_loop m ρ Kn c h3 hE) $$ [HO Hox Ht3 Ht4 Hc2 Hp12]
  · isplitr; · iexact Hc
    isplitl [HO]; · iexact HO
    isplitl [Hc2]; · iexact Hc2
    isplitl [Hp12]; · iexact Hp12
    isplitl [Hox]; · iexact Hox
    isplitl [Ht3] <;> iassumption
  iintro ⟨HO, Hz12, Hc03⟩
  iapply (wait_loop m ρ Kn c (fun i => (1, 3, i)) u13 (end3 c h3) _ (fun i k => rfl) (fun i K => wpE_waitDma2_eq 𝒱₀ (c : Thread nD τ) none Set.univ K)) $$ [HO Hc3 Hp13]
  · isplitr; · iexact Hc
    isplitl [HO]; · iexact HO
    isplitl [Hc3] <;> iassumption
  iintro ⟨HO, Hz13, Hoh⟩
  iapply (wait_loop m ρ Kn c (fun i => (0, 0, i)) u00 (end4 c h3) _ (fun i k => rfl) (fun i K => wpE_waitDma2_eq 𝒱₀ (c : Thread nD τ) none Set.univ K)) $$ [HO Hc00 Hp00]
  · isplitr; · iexact Hc
    isplitl [HO]; · iexact HO
    isplitl [Hc00] <;> iassumption
  iintro ⟨HO, Hz00, -⟩
  iapply (wait_loop m ρ Kn c (fun i => (0, 3, i)) u03 (end5 c h3) _ (fun i k => rfl) (fun i K => wpE_waitDma2_eq 𝒱₀ (c : Thread nD τ) none Set.univ K)) $$ [HO Hc03 Hp03]
  · isplitr; · iexact Hc
    isplitl [HO]; · iexact HO
    isplitl [Hc03] <;> iassumption
  iintro ⟨HO, Hz03, Hof⟩
  ihave Hof := hx $$ Hof
  iapply Hk
  isplitl [Hx]; · iexact Hx
  isplitl [HO]; · iexact HO
  isplitr [Hoh Hof]
  · isplitl [Hz12]; · iexact Hz12
    isplitl [Hz13]; · iexact Hz13
    isplitl [Hz00] <;> iassumption
  isplitl [Hof]; · iexact Hof
  iexact Hoh
end End

section Mid
variable (c : Dev nD) (h4 : k0_cond4 c = 1#1) (hM : ¬ IsEnd c)
include hM

/-- All four loops of a middle device. -/
theorem mid_loops (p : PM F PUnit) (Q : PUnit → sProp 𝕄) :
    iprop(ctx m ρ Kn ∗ xPts m ρ c ∗ ow c (owM c chunks) ∗ b16 (midPre c)
        ∗ b16 (fun i => crd c (1, 3, i))
        ∗ (b16 (fun i => pos c (some (1, 3, i))) ∗ b16 (fun i => pos c (some (0, 2, i))) ∗ b16 (fun i => pos c (some (0, 3, i)))))
      ⊢ iprop(((xPts m ρ c ∗ ow c []
          ∗ (b16 (fun i => zer c (some (1, 0, i))) ∗ b16 (fun i => zer c (some (1, 1, i))) ∗ b16 (fun i => zer c (some (0, 1, i)))
            ∗ b16 (fun i => zer c (some (1, 3, i))) ∗ b16 (fun i => zer c (some (0, 2, i))) ∗ b16 (fun i => zer c (some (0, 3, i))))
          ∗ (b16 (fun i => aPts c i (Am m ρ c)) ∗ b16 (fun i => bPts c i (Bm m ρ c)))
          ∗ (b16 (fun i => oPts c (hf c) i fullShare (Gm m ρ c)) ∗ b16 (fun i => oPts c (oh c) i fullShare (Gm m ρ c)))) -∗ WP c p Q)
        -∗ WP c (loop (mid12 c h4) chunks <| loop (mid3 c h4) chunks <| loop (mid4 c h4 · 2) chunks <| loop (mid4 c h4 · 3) chunks p) Q) := by
  have u13 : ∀ i : Fin 16, used c (1, 3, i) := fun _ => trivial
  have u02 : ∀ i : Fin 16, used c (0, 2, i) := fun _ => hM
  have u03 : ∀ i : Fin 16, used c (0, 3, i) := fun _ => trivial
  have hj : iprop(b16 (fun i => pay m ρ c 0 (some (0, 2, i))) ∗ b16 (fun i => pay m ρ c 0 (some (0, 3, i)))) ⊢ b16 (fun i => oPts c (hf c) i fullShare (Gm m ρ c)) :=
    (b16_sep _ _).trans (b16_mono fun i => by
      show iprop(oPts c (hf c) i fullShare.left (Gm m ρ c) ∗ oPts c (hf c) i (shX c) (Gm m ρ c)) ⊢ _
      rw [show shX c = fullShare.right from if_neg hM]
      exact (pointsTo_share (PosShare.mem_left_op_right fullShare)).2)
  have hpost : b16 (midPost m ρ c) ⊢ iprop(b16 (fun i => zer c (some (1, 0, i))) ∗ b16 (fun i => zer c (some (1, 1, i))) ∗ b16 (fun i => zer c (some (0, 1, i)))
      ∗ b16 (fun i => aPts c i (Am m ρ c)) ∗ b16 (fun i => bPts c i (Bm m ρ c)) ∗ b16 (fun i => crd c (0, 2, i)) ∗ b16 (fun i => crd c (0, 3, i))) :=
    (b16_unsep _ _).trans (BI.Laws.sep_mono .rfl ((b16_unsep _ _).trans (BI.Laws.sep_mono .rfl ((b16_unsep _ _).trans (BI.Laws.sep_mono .rfl
      ((b16_unsep _ _).trans (BI.Laws.sep_mono .rfl ((b16_unsep _ _).trans (BI.Laws.sep_mono .rfl (b16_unsep _ _))))))))))
  iintro ⟨#Hc, Hx, HO, Hpre, Hc3, ⟨Hp13, Hp02, Hp03⟩⟩ Hk
  iapply (wp_loop16 m ρ Kn c (R := xPts m ρ c) (mid12 c h4) (fun l => owM c l) (midPre c) (midPost m ρ c) Q
    (fun i l k hl => mid12_step m ρ Kn c h4 hM i l hl k Q)) $$ [Hx HO Hpre]
  · isplitr; · iexact Hc
    isplitl [Hx]; · iexact Hx
    isplitl [HO] <;> iassumption
  iintro ⟨Hx, HO, Hpost⟩
  ihave Hpost := hpost $$ Hpost
  icases Hpost with ⟨Hz10, Hz11, Hz01, Ha, Hb, Hc02, Hc03⟩
  iapply (wait_loop m ρ Kn c (fun i => (1, 3, i)) u13 (mid3 c h4) _ (fun i k => rfl) (fun i K => wpE_waitDma2_eq 𝒱₀ (c : Thread nD τ) none Set.univ K)) $$ [HO Hc3 Hp13]
  · isplitr; · iexact Hc
    isplitl [HO]; · iexact HO
    isplitl [Hc3] <;> iassumption
  iintro ⟨HO, Hz13, Hoh⟩
  iapply (wait_loop m ρ Kn c (fun i => (0, 2, i)) u02 (fun i => mid4 c h4 i 2) _ (fun i k => rfl) (fun i K => wpE_waitDma2_eq 𝒱₀ (c : Thread nD τ) none Set.univ K)) $$ [HO Hc02 Hp02]
  · isplitr; · iexact Hc
    isplitl [HO]; · iexact HO
    isplitl [Hc02] <;> iassumption
  iintro ⟨HO, Hz02, Hl⟩
  iapply (wait_loop m ρ Kn c (fun i => (0, 3, i)) u03 (fun i => mid4 c h4 i 3) _ (fun i k => rfl) (fun i K => wpE_waitDma2_eq 𝒱₀ (c : Thread nD τ) none Set.univ K)) $$ [HO Hc03 Hp03]
  · isplitr; · iexact Hc
    isplitl [HO]; · iexact HO
    isplitl [Hc03] <;> iassumption
  iintro ⟨HO, Hz03, Hr⟩
  iapply Hk
  isplitl [Hx]; · iexact Hx
  isplitl [HO]; · iexact HO
  isplitl [Hz10 Hz11 Hz01 Hz13 Hz02 Hz03]
  · isplitl [Hz10]; · iexact Hz10
    isplitl [Hz11]; · iexact Hz11
    isplitl [Hz01]; · iexact Hz01
    isplitl [Hz13]; · iexact Hz13
    isplitl [Hz02] <;> iassumption
  isplitl [Ha Hb]
  · isplitl [Ha] <;> iassumption
  isplitl [Hl Hr]
  · iapply hj
    isplitl [Hl] <;> iassumption
  iexact Hoh
end Mid

end Cert.ReduceProof

end
-- ==== Proof.Whole.lean ====
/-
# The printed body is the loops

The body as printed is unrolled; here it is shown equal to the program of short loops over the chunks.
-/
module

public import proofs.«01_k».proof.Proof.Steps

@[expose] public section

noncomputable section

namespace Cert.ReduceProof

open Cert.KernelIdeal Cert.KernelIdeal.Gen
open Idealize.ShloMosaic Idealize.SL.Sem

variable {F : FTy → Type} [FloatOps F]

/-- A device is an end or a middle one, and the four conditions of the body say which. -/
theorem cond_cases : ∀ d0 : Dev nD, (k0_cond1 d0 = 1#1 ∧ k0_cond3 d0 = 1#1 ∧ ¬ k0_cond2 d0 = 1#1 ∧ ¬ k0_cond4 d0 = 1#1)
    ∨ (¬ k0_cond1 d0 = 1#1 ∧ ¬ k0_cond3 d0 = 1#1 ∧ k0_cond2 d0 = 1#1 ∧ k0_cond4 d0 = 1#1) := by decide +kernel

set_option maxRecDepth 100000 in
set_option maxHeartbeats 4000000 in
/-- The printed body is the program of loops. -/
theorem body_eq : cc0_body (F := F) xM xW oM oW aM aW bM bW cc0_scratch2 cc0_scratch3 = prog := by
  rw [cc0_body_eq_skeleton]; unfold cc0_body_skel
  rw [k0_part89_eq_skeleton]; unfold k0_part89_skel prog head
  simp only [Prog.bind_assoc, Prog.bind_lift, Prog.pure_eq_ret, Prog.bind_ret, Prog.bind_op]
  refine congrArg (Prog.op _) (funext fun d0 => ?_)
  rcases cond_cases d0 with ⟨h1, h3, h2, h4⟩ | ⟨h1, h3, h2, h4⟩
  · simp only [dif_pos h1, dif_neg h2, dif_pos h3, dif_neg h4, Prog.bind_assoc, Prog.bind_ret, Prog.bind_op]
    rfl
  · simp only [dif_neg h1, dif_pos h2, dif_neg h3, dif_pos h4, Prog.bind_assoc, Prog.bind_ret, Prog.bind_op]
    rfl

end Cert.ReduceProof
end
-- ==== Proof.Body.lean ====
/-
# One device's run of the kernel
-/
module

public import proofs.«01_k».proof.Proof.Loops
public import proofs.«01_k».proof.Proof.Whole

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (Kn : Dev nD × KC → ℕ)

/-- The program after the device has read its number. -/
def progAt (d0 : Dev nD) : PM F PUnit := do
  head d0
  if k0_h3 : k0_cond3 d0 = 1#1 then endProg d0 k0_h3 else pure ⟨⟩
  if k0_h4 : k0_cond4 d0 = 1#1 then midProg d0 k0_h4 else pure ⟨⟩
  pure ⟨⟩

theorem prog_at : prog (F := F) = .op .deviceId progAt := rfl

theorem progAt_end (c : Dev nD) (h3 : k0_cond3 c = 1#1) (h4 : ¬ k0_cond4 c = 1#1) : progAt (F := F) c = (head c >>= fun _ =>
    loop (end1 c h3) chunks <| loop (end2 c h3) chunks <| loop (end3 c h3) chunks <| loop (end4 c h3) chunks <| loop (end5 c h3) chunks (pure ⟨⟩)) := by
  unfold progAt
  rw [dif_pos h3, dif_neg h4]
  unfold endProg
  rw [loop_bind, loop_bind, loop_bind, loop_bind, loop_bind]
  rfl
theorem progAt_mid (c : Dev nD) (h3 : ¬ k0_cond3 c = 1#1) (h4 : k0_cond4 c = 1#1) : progAt (F := F) c = (head c >>= fun _ =>
    loop (mid12 c h4) chunks <| loop (mid3 c h4) chunks <| loop (mid4 c h4 · 2) chunks <| loop (mid4 c h4 · 3) chunks (pure ⟨⟩)) := by
  unfold progAt
  rw [dif_neg h3, dif_pos h4]
  unfold midProg
  show (head c >>= fun _ => (loop (mid12 c h4) chunks (loop (mid3 c h4) chunks (loop (mid4 c h4 · 2) chunks (loop (mid4 c h4 · 3) chunks (pure ⟨⟩))))) >>= fun _ => (pure ⟨⟩ : PM F PUnit)) = _
  rw [loop_bind, loop_bind, loop_bind, loop_bind]
  rfl

/-- What a device holds as the kernel starts. -/
def bodyIn (c : Dev nD) : sProp 𝕄 :=
  iprop((bigSep Finset.univ fun k : KC => pos c k) ∗ payToks c ∗ creds c ∗ aAll c ∗ bAll c ∗ xPts m ρ c ∗ (∃ f, oAll c f) ∗ ow c (owed₀ c))

theorem out_halves (c : Dev nD) : iprop(∃ f : XB F, oAll c f) ⊢ iprop(oHalf c (hf c) ∗ oHalf c (oh c)) := by
  iintro ⟨%f, H⟩
  iapply (oAll_halves c f); iexact H

/-- The run of an end device. -/
theorem end_run (c : Dev nD) (hE : IsEnd c) (Q : PUnit → sProp 𝕄) :
    iprop(ctx m ρ Kn ∗ bodyIn m ρ c) ⊢ iprop((done m ρ c -∗ Q ⟨⟩) -∗ WP c (progAt c) Q) := by
  have h3 : k0_cond3 c = 1#1 := (cond3_iff c).mpr hE
  have h4 : ¬ k0_cond4 c = 1#1 := fun h => (cond4_iff c).mp h hE
  have u01 : ∀ i : Fin 16, ¬ used c (0, 1, i) := fun _ h => h hE
  have u02 : ∀ i : Fin 16, ¬ used c (0, 2, i) := fun _ h => h hE
  have u10 : ∀ i : Fin 16, ¬ used c (1, 0, i) := fun _ h => h hE
  have u11 : ∀ i : Fin 16, ¬ used c (1, 1, i) := fun _ h => h hE
  rw [progAt_end c h3 h4]
  unfold bodyIn
  iintro ⟨#Hc, Hpos, Htok, Hcr, Ha, Hb, Hx, Ho, HO⟩ Hk
  ihave Hpos := (pos_split (F := F) c) $$ Hpos
  icases Hpos with ⟨HpB, ⟨Hp00, Hp01, Hp02, Hp03⟩, ⟨Hp10, Hp11, Hp12, Hp13⟩⟩
  ihave Htok := (toks_split (F := F) c) $$ Htok
  icases Htok with ⟨⟨HtB0, HtB1, -⟩, ⟨Ht00, -, -, Ht03⟩, ⟨Ht10, -, -, Ht13⟩⟩
  ihave Hcr := (creds_end (F := F) c hE) $$ Hcr
  icases Hcr with ⟨HcB, Hc12, Hc13⟩
  ihave Ho := (out_halves (F := F) c) $$ Ho
  icases Ho with ⟨Ho, Hoh⟩
  iapply (head_end m ρ Kn c hE) $$ [HO HtB0 HtB1 HcB HpB Hoh]
  · isplitr; · iexact Hc
    isplitl [HO]; · iexact HO
    isplitl [HtB0 HtB1]
    · isplitl [HtB0] <;> iassumption
    isplitl [HcB]; · iexact HcB
    isplitl [HpB] <;> iassumption
  iintro ⟨HO, HzB, Hay, Hox⟩
  ihave Ho := (oHalf_chunks (F := F) c (hf c)) $$ Ho
  ihave Hox := (oHalf_chunks (F := F) (xp c) (hf c)) $$ Hox
  ihave Hay := (aAll_chunks (F := F) (yp c)) $$ Hay
  iapply (end_loops m ρ Kn c h3 hE) $$ [Hx HO Ho Hay Hox Ht00 Ht10 Ht03 Ht13 Hc12 Hc13 Hp12 Hp13 Hp00 Hp03]
  · isplitr; · iexact Hc
    isplitl [Hx]; · iexact Hx
    isplitl [HO]; · iexact HO
    isplitl [Ho Hay Hox]
    · isplitl [Ho]; · iexact Ho
      isplitl [Hay] <;> iassumption
    isplitl [Ht00 Ht10 Ht03 Ht13]
    · isplitl [Ht00]; · iexact Ht00
      isplitl [Ht10]; · iexact Ht10
      isplitl [Ht03] <;> iassumption
    isplitl [Hc12 Hc13]
    · isplitl [Hc12] <;> iassumption
    isplitl [Hp12]; · iexact Hp12
    isplitl [Hp13]; · iexact Hp13
    isplitl [Hp00] <;> iassumption
  iintro ⟨Hx, HO, ⟨Hz12, Hz13, Hz00, Hz03⟩, Hout⟩
  imod (close_unused m ρ Kn c (fun i => (0, 1, i)) u01) $$ [Hp01] with Hz01
  · isplitr; · iexact Hc
    iexact Hp01
  imod (close_unused m ρ Kn c (fun i => (0, 2, i)) u02) $$ [Hp02] with Hz02
  · isplitr; · iexact Hc
    iexact Hp02
  imod (close_unused m ρ Kn c (fun i => (1, 0, i)) u10) $$ [Hp10] with Hz10
  · isplitr; · iexact Hc
    iexact Hp10
  imod (close_unused m ρ Kn c (fun i => (1, 1, i)) u11) $$ [Hp11] with Hz11
  · isplitr; · iexact Hc
    iexact Hp11
  rw [Prog.pure_eq_ret, wp_ret]; imodintro
  iapply Hk
  unfold done
  isplitl [HzB Hz00 Hz01 Hz02 Hz03 Hz10 Hz11 Hz12 Hz13]
  · iapply (zer_join (F := F) c)
    isplitl [HzB]; · iexact HzB
    isplitl [Hz00 Hz01 Hz02 Hz03]
    · isplitl [Hz00]; · iexact Hz00
      isplitl [Hz01]; · iexact Hz01
      isplitl [Hz02] <;> iassumption
    isplitl [Hz10]; · iexact Hz10
    isplitl [Hz11]; · iexact Hz11
    isplitl [Hz12] <;> iassumption
  isplitl [Ha]; · iexact Ha
  isplitl [Hb]; · iexact Hb
  isplitl [Hx]; · iexact Hx
  isplitl [Hout]
  · iapply (oAll_join (F := F) c (Gm m ρ c)); iexact Hout
  iexact HO

/-- What a middle device starts its chunks with. -/
theorem midPre_join (c : Dev nD) :
    iprop((b16 (fun i => crd c (1, 0, i)) ∗ b16 (fun i => pos c (some (1, 0, i))) ∗ b16 (fun i => crd c (1, 1, i)) ∗ b16 (fun i => pos c (some (1, 1, i))) ∗ b16 (fun i => pos c (some (0, 1, i)))
        ∗ b16 (fun i => iprop(∃ f, oPts c (hf c) i fullShare f)) ∗ b16 (fun i => iprop(∃ f, bPts (op c) i f)) ∗ b16 (fun i => tok c (0, 1, i)) ∗ b16 (fun i => tok (op c) (1, 1, i)))
      ∗ (b16 (fun i => iprop(∃ f, oPts (xp c) (hf c) i fullShare f)) ∗ b16 (fun i => tok c (0, 2, i)) ∗ b16 (fun i => tok (yp c) (1, 2, i)) ∗ b16 (fun i => tok c (0, 3, i)) ∗ b16 (fun i => tok (xp c) (1, 3, i))))
      ⊢ b16 (midPre (F := F) c) := by
  have cons : ∀ (A B : Fin 16 → sProp 𝕄) {P : sProp 𝕄}, (P ⊢ b16 B) → iprop(b16 A ∗ P) ⊢ b16 (fun i => iprop(A i ∗ B i)) :=
    fun A B P h => (BI.Laws.sep_mono .rfl h).trans (b16_sep A B)
  refine (BI.Laws.sep_mono ?_ ?_).trans (b16_sep _ _)
  · exact cons _ _ (cons _ _ (cons _ _ (cons _ _ (cons _ _ (cons _ _ (cons _ _ (b16_sep _ _)))))))
  · exact cons _ _ (cons _ _ (cons _ _ (b16_sep _ _)))

/-- The run of a middle device. -/
theorem mid_run (c : Dev nD) (hM : ¬ IsEnd c) (Q : PUnit → sProp 𝕄) :
    iprop(ctx m ρ Kn ∗ bodyIn m ρ c) ⊢ iprop((done m ρ c -∗ Q ⟨⟩) -∗ WP c (progAt c) Q) := by
  have h3 : ¬ k0_cond3 c = 1#1 := fun h => hM ((cond3_iff c).mp h)
  have h4 : k0_cond4 c = 1#1 := (cond4_iff c).mpr hM
  have u00 : ∀ i : Fin 16, ¬ used c (0, 0, i) := fun _ h => hM h
  have u12 : ∀ i : Fin 16, ¬ used c (1, 2, i) := fun _ h => hM h
  rw [progAt_mid c h3 h4]
  unfold bodyIn
  iintro ⟨#Hc, Hpos, Htok, Hcr, Ha, Hb, Hx, Ho, HO⟩ Hk
  ihave Hpos := (pos_split (F := F) c) $$ Hpos
  icases Hpos with ⟨HpB, ⟨Hp00, Hp01, Hp02, Hp03⟩, ⟨Hp10, Hp11, Hp12, Hp13⟩⟩
  ihave Htok := (toks_split (F := F) c) $$ Htok
  icases Htok with ⟨HtB, ⟨-, Ht01, Ht02, Ht03⟩, ⟨-, Ht11, Ht12, Ht13⟩⟩
  ihave Hcr := (creds_mid (F := F) c hM) $$ Hcr
  icases Hcr with ⟨HcB, Hc10, Hc11, Hc13⟩
  ihave Ho := (out_halves (F := F) c) $$ Ho
  icases Ho with ⟨Ho, Hoh⟩
  iapply (head_mid m ρ Kn c hM) $$ [HO HtB HcB HpB Hoh Ha Hb]
  · isplitr; · iexact Hc
    isplitl [HO]; · iexact HO
    isplitl [HtB]; · iexact HtB
    isplitl [HcB]; · iexact HcB
    isplitl [HpB]; · iexact HpB
    isplitl [Hoh]; · iexact Hoh
    isplitl [Ha] <;> iassumption
  iintro ⟨HO, HzB, Hox, Hbo⟩
  ihave Ho := (oHalf_chunks (F := F) c (hf c)) $$ Ho
  ihave Hox := (oHalf_chunks (F := F) (xp c) (hf c)) $$ Hox
  ihave Hbo := (bAll_chunks (F := F) (op c)) $$ Hbo
  iapply (mid_loops m ρ Kn c h4 hM) $$ [Hx HO Ho Hbo Hox Ht01 Ht02 Ht03 Ht11 Ht12 Ht13 Hc10 Hc11 Hc13 Hp10 Hp11 Hp01 Hp13 Hp02 Hp03]
  · isplitr; · iexact Hc
    isplitl [Hx]; · iexact Hx
    isplitl [HO]; · iexact HO
    isplitr [Hc13 Hp13 Hp02 Hp03]
    · iapply (midPre_join (F := F) c)
      isplitr [Hox Ht02 Ht12 Ht03 Ht13]
      · isplitl [Hc10]; · iexact Hc10
        isplitl [Hp10]; · iexact Hp10
        isplitl [Hc11]; · iexact Hc11
        isplitl [Hp11]; · iexact Hp11
        isplitl [Hp01]; · iexact Hp01
        isplitl [Ho]; · iexact Ho
        isplitl [Hbo]; · iexact Hbo
        isplitl [Ht01] <;> iassumption
      isplitl [Hox]; · iexact Hox
      isplitl [Ht02]; · iexact Ht02
      isplitl [Ht12]; · iexact Ht12
      isplitl [Ht03] <;> iassumption
    isplitl [Hc13]; · iexact Hc13
    isplitl [Hp13]; · iexact Hp13
    isplitl [Hp02] <;> iassumption
  iintro ⟨Hx, HO, ⟨Hz10, Hz11, Hz01, Hz13, Hz02, Hz03⟩, ⟨Ha, Hb⟩, Hout⟩
  imod (close_unused m ρ Kn c (fun i => (0, 0, i)) u00) $$ [Hp00] with Hz00
  · isplitr; · iexact Hc
    iexact Hp00
  imod (close_unused m ρ Kn c (fun i => (1, 2, i)) u12) $$ [Hp12] with Hz12
  · isplitr; · iexact Hc
    iexact Hp12
  rw [Prog.pure_eq_ret, wp_ret]; imodintro
  iapply Hk
  unfold done
  isplitl [HzB Hz00 Hz01 Hz02 Hz03 Hz10 Hz11 Hz12 Hz13]
  · iapply (zer_join (F := F) c)
    isplitl [HzB]; · iexact HzB
    isplitl [Hz00 Hz01 Hz02 Hz03]
    · isplitl [Hz00]; · iexact Hz00
      isplitl [Hz01]; · iexact Hz01
      isplitl [Hz02] <;> iassumption
    isplitl [Hz10]; · iexact Hz10
    isplitl [Hz11]; · iexact Hz11
    isplitl [Hz12] <;> iassumption
  isplitl [Ha]; · iapply (aAll_join (F := F) c (Am m ρ c)); iexact Ha
  isplitl [Hb]; · iapply (bAll_join (F := F) c (Bm m ρ c)); iexact Hb
  isplitl [Hx]; · iexact Hx
  isplitl [Hout]
  · iapply (oAll_join (F := F) c (Gm m ρ c)); iexact Hout
  iexact HO

/-- The run of any device. -/
theorem dev_run (c : Dev nD) (Q : PUnit → sProp 𝕄) :
    iprop(ctx m ρ Kn ∗ bodyIn m ρ c) ⊢ iprop((done m ρ c -∗ Q ⟨⟩) -∗ WP c prog Q) := by
  rw [prog_at]
  show _ ⊢ iprop((done m ρ c -∗ Q ⟨⟩) -∗ WP c (.op .deviceId progAt) Q)
  simp only [wp_deviceId]
  by_cases h : IsEnd c
  · exact end_run m ρ Kn c h Q
  · exact mid_run m ρ Kn c h Q

/-! ## The body as the launch asks for it -/

/-- Before the kernel: `start` and the landing buffers. After it: the cells at zero and the landing buffers. -/
def Φ₀ (c : Dev nD) : sProp 𝕄 := iprop(start m ρ c ∗ aAll c ∗ bAll c)
def Φ₁ (c : Dev nD) : sProp 𝕄 := iprop((bigSep Finset.univ fun k : KC => zer c k) ∗ aAll c ∗ bAll c)

/-- Arrays, staged contents, what is held and what is owed before and after the one grid point. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xs m ρ c
    | ⟨1, _⟩ => Gm m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

/-- What the launch hands the kernel: what is held, what is owed, the argument staged, any contents of the result. -/
def bodyPre (c : Dev nD) : sProp 𝕄 :=
  iprop(Φ₀ m ρ c ∗ (dats m ρ 0 c).owesAt () t0_0.castSucc
    ∗ (∃ d, (c : Thread nD τ).loc cc0_stg0_0 ↦{fullShare} (dats m ρ 0 c).before (0 : Fin 2) t0_0 d)
    ∗ (∃ d, (c : Thread nD τ).loc cc0_stg1_0 ↦{fullShare} (dats m ρ 0 c).before (1 : Fin 2) t0_0 d))
/-- What it hands back: the same with the result computed and nothing owed. -/
def bodyPost (c : Dev nD) : sProp 𝕄 :=
  iprop(Φ₁ c ∗ (dats m ρ 0 c).owesAt () t0_0.succ ∗ ((c : Thread nD τ).loc cc0_stg0_0 ↦{fullShare} xs m ρ c)
    ∗ ((c : Thread nD τ).loc cc0_stg1_0 ↦{fullShare} Gm m ρ c))

/-- The kernel takes `bodyPre` to `bodyPost`. -/
theorem sound_body (c : Dev nD) : bodyPre m ρ c ⊢ WP c prog (fun _ => bodyPost m ρ c) := by
  have hx : ∀ d, (dats m ρ 0 c).before (0 : Fin 2) t0_0 d = xs m ρ c := fun d => by
    unfold Pipeline.Dat.before; rw [if_pos (fetch_0 t0_0)]; rfl
  have h0 : (dats m ρ 0 c).owed t0_0.castSucc = OL (owed₀ c) := rfl
  have h1 : (dats m ρ 0 c).owed t0_0.succ = OL [] := rfl
  unfold bodyPre Φ₀ start Pipeline.Dat.owesAt Pipeline.owesWithin
  rw [h0]
  iintro ⟨⟨⟨⟨%Kn, #Hc⟩, Hpos, Htok, Hcr⟩, Ha, Hb⟩, ⟨%W, %hW, HO⟩, ⟨%d0, Hx⟩, ⟨%d1, Ho⟩⟩
  rw [hx d0]
  iapply (dev_run m ρ Kn c) $$ [Hpos Htok Hcr Ha Hb HO Hx Ho]
  · isplitr; · iexact Hc
    unfold bodyIn
    isplitl [Hpos]; · iexact Hpos
    isplitl [Htok]; · iexact Htok
    isplitl [Hcr]; · iexact Hcr
    isplitl [Ha]; · iexact Ha
    isplitl [Hb]; · iexact Hb
    isplitl [Hx]; · unfold xPts; iexact Hx
    isplitl [Ho]; · iexists ((dats m ρ 0 c).before (1 : Fin 2) t0_0 d1); unfold oAll; iexact Ho
    unfold ow; iexists W; iexact HO
  unfold done bodyPost Φ₁ ow xPts oAll Pipeline.Dat.owesAt Pipeline.owesWithin
  rw [h1]
  iintro ⟨Hz, Ha, Hb, Hx, Ho, ⟨%W', HO⟩⟩
  isplitl [Hz Ha Hb]
  · isplitl [Hz]; · iexact Hz
    isplitl [Ha] <;> iassumption
  isplitl [HO]
  · iexists W'
    isplitr
    · ipureintro; intro _ _; exact Or.inl trivial
    · iexact HO
  isplitl [Hx] <;> iassumption

set_option maxRecDepth 40000 in
/-- The library's body obligation on device `c`. -/
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole]
  show bodyPre m ρ c ⊢ WP c (cc0_body (F := F) xM xW oM oW aM aW bM bW cc0_scratch2 cc0_scratch3) (fun _ => bodyPost m ρ c)
  rw [body_eq]
  exact sound_body m ρ c

end Cert.ReduceProof

end
-- ==== Proof.Launch.lean ====
/-
# The run of the whole mesh
-/
module

public import proofs.«01_k».proof.Proof.Body
public import Idealize.ShloMosaic.Lib.Pipeline.CollectiveSegs

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (Kn : Dev nD × KC → ℕ)

/-- The table cells are the kernel's own: scoped, distinct, none of them a staging cell. -/
theorem ownSemFacts : Pipeline.OwnSemFacts cfg0.spec osem where
  isScoped k := by
    obtain ⟨d, hd⟩ := osem_dma k
    have h : ∀ k : OC, (osem k).isScoped .tc = true := by decide +kernel
    exact h k
  inj := osem_injective
  disj k w s := by
    have h : ∀ (k : OC) (w : Fin 2) (s : Fin (cfg0.spec w).nbuf), osem k ≠ .dma ((cfg0.spec w).sem s) := by decide +kernel
    exact h k w s

theorem share_eq (c : Dev nD) (w : Fin cfg0.W) : (dats m ρ 0 c).share w = fullShare := by unfold Pipeline.Dat.share; split <;> rfl

/-- Every cell of every device, and every token its schedule has. -/
def allCells : Finset (GSem nD τ sig) := Finset.univ.map ⟨kcell, kcell_injective⟩
abbrev tokOf (x : (Dev nD × KC) × Fin 3) : GSem nD τ sig × ℕ × Fin 3 := (kcell x.1, 0, x.2)
theorem tokOf_injective : Function.Injective tokOf := by
  rintro ⟨ck, d⟩ ⟨ck', d'⟩ h
  have h1 : ck = ck' := kcell_injective (congrArg Prod.fst h)
  have h2 : d = d' := congrArg (fun x : GSem nD τ sig × ℕ × Fin 3 => x.2.2) h
  rw [h1, h2]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

omit [FloatOps F] in
/-- The tokens of the cells of `c`. -/
def toks (c : Dev nD) : sProp 𝕄 :=
  bigSep Finset.univ fun k : KC => bigSep Finset.univ fun d : Fin 3 => dutyTok ER (kcell (c, k)) 0 d

/-- What the launch deals to `c`. -/
def deal (c : Dev nD) : sProp 𝕄 :=
  iprop((bigSep Finset.univ fun k : KC => roundState ER (Rd m ρ) (kcell (c, k)) 0)
    ∗ ((bigSep Finset.univ fun k : KC => pos c k) ∗ (bigSep Finset.univ fun k : KC => reached ER (kcell (c, k)) 0)) ∗ toks c)

theorem fund_cells : BI.own (ER (initOf allCells allToks)) ⊢ (|==> bigSep Finset.univ (deal m ρ) : sProp 𝕄) := by
  have hX (Φ : GSem nD τ sig → sProp 𝕄) : bigSep allCells Φ = bigSep Finset.univ fun c : Dev nD => bigSep Finset.univ fun k : KC => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold deal; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : OC => zer c (some k) := rfl
omit [FloatOps F] in
theorem unscopedSems0_eq (c : Dev nD) : (unscopedSems0 c : sProp 𝕄) = zer c none := by
  unfold unscopedSems0; rw [bigSep_eq_bigSepL_of_eq [SemLoc.reg barS] (by decide) (by decide)]; rfl
omit [FloatOps F] in
/-- A device's table cells and its barrier cell are its cells. -/
theorem sems_eq (c : Dev nD) : (bigSep Finset.univ fun k : KC => zer c k : sProp 𝕄)
    = iprop(unscopedSems0 c ∗ Pipeline.ownSems0 (Ix := Unit) (Name := ℕ) (U := UU) (Lvl := ℕ) (Val := Elt F) (τ := τ) osem c) := by
  rw [ownSems0_eq, unscopedSems0_eq, bigSep_option]

/-- The invariants of a device's cells are set up. -/
theorem core_alloc (c : Dev nD) :
    iprop(Pipeline.ownSems0 (Ix := Unit) (Name := ℕ) (U := UU) (Lvl := ℕ) (Val := Elt F) (τ := τ) osem c ∗ unscopedSems0 c ∗ deal m ρ c)
      ⊢ |={Set.univ}=> iprop((bigSep Finset.univ fun k : KC => iprop(∃ κ : ℕ, cellInv ER (Rd m ρ) κ (kcell (c, k))))
          ∗ ((bigSep Finset.univ fun k : KC => pos c k) ∗ (bigSep Finset.univ fun k : KC => reached ER (kcell (c, k)) 0)) ∗ toks c) := by
  have hinv : iprop((bigSep Finset.univ fun k : KC => zer c k) ∗ bigSep Finset.univ fun k : KC => roundState ER (Rd m ρ) (kcell (c, k)) 0)
      ⊢ (|={Set.univ}=> bigSep Finset.univ fun k : KC => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold deal
  iintro ⟨Hos, Hus, Hst, Hat, Htok⟩
  ihave Hv := (Entails.of_eq (sems_eq (F := F) c).symm) $$ [Hos Hus]
  · isplitl [Hus] <;> iassumption
  imod hinv $$ [Hv Hst] with Hinv
  · isplitl [Hv] <;> iassumption
  imodintro
  isplitl [Hinv]; · iexact Hinv
  isplitl [Hat]; · iexact Hat
  iexact Htok

/-! ### The tokens go to those who pay -/

def ypE : Dev nD ≃ Dev nD := ⟨yp, yp, yp_yp, yp_yp⟩
def xpE : Dev nD ≃ Dev nD := ⟨xp, xp, xp_xp, xp_xp⟩
def opE : Dev nD ≃ Dev nD := ⟨op, op, op_op, op_op⟩
theorem pee_pee (c : Dev nD) (ph : Fin 4) : pee (pee c ph) ph = c := by
  rcases ph with ⟨_ | _ | _ | _ | n, hn⟩
  · exact yp_yp c
  · exact op_op c
  · exact yp_yp c
  · exact xp_xp c
  · omega
def peeE (ph : Fin 4) : Dev nD ≃ Dev nD := ⟨(pee · ph), (pee · ph), fun c => pee_pee c ph, fun c => pee_pee c ph⟩

section Toks
omit [FloatOps F]
theorem bigSep_fin3 (Φ : Fin 3 → sProp 𝕄) : bigSep Finset.univ Φ = iprop(Φ 0 ∗ Φ 1 ∗ Φ 2) := bigSep_univ_eq_bigSepL [0, 1, 2] (by decide) (by decide) Φ

theorem toks_own (c : Dev nD) : toks (F := F) c ⊢
    iprop((dutyTok ER (kcell (c, none)) 0 0 ∗ dutyTok ER (kcell (c, none)) 0 1 ∗ dutyTok ER (kcell (c, none)) 0 2)
      ∗ (bigSep Finset.univ fun pi : Fin 4 × Fin 16 => tok c (0, pi.1, pi.2)) ∗ (bigSep Finset.univ fun pi : Fin 4 × Fin 16 => tok c (1, pi.1, pi.2))) := by
  have h : ∀ k : KC, (bigSep Finset.univ fun d : Fin 3 => (dutyTok ER (kcell (c, k)) 0 d : sProp 𝕄)) ⊢ dutyTok ER (kcell (c, k)) 0 0 := fun k =>
    bigSep_elim (Finset.mem_univ 0)
  unfold toks
  rw [bigSep_option, bigSep_fin3, bigSep_univ_prod, bigSep_two]
  exact BI.Laws.sep_mono .rfl (BI.Laws.sep_mono (bigSep_mono fun pi _ => h _) (bigSep_mono fun pi _ => h _))

theorem toks_around : (bigSep Finset.univ fun c : Dev nD => (toks c : sProp 𝕄)) ⊢ bigSep Finset.univ fun c : Dev nD => payToks c := by
  have swap : ∀ Φ : Dev nD → Fin 4 × Fin 16 → sProp 𝕄, (bigSep Finset.univ fun c => bigSep Finset.univ fun pi => Φ c pi)
      = bigSep Finset.univ fun pi => bigSep Finset.univ fun c => Φ c pi := fun Φ => by
    rw [← bigSep_univ_prod (fun x : Dev nD × (Fin 4 × Fin 16) => Φ x.1 x.2),
      ← bigSep_univ_prod (fun x : (Fin 4 × Fin 16) × Dev nD => Φ x.2 x.1),
      bigSep_univ_equiv (Equiv.prodComm (Fin 4 × Fin 16) (Dev nD)) (fun x : Dev nD × (Fin 4 × Fin 16) => Φ x.1 x.2)]
    rfl
  have hr : (bigSep Finset.univ fun c : Dev nD => bigSep Finset.univ fun pi : Fin 4 × Fin 16 => (tok c (1, pi.1, pi.2) : sProp 𝕄))
      = bigSep Finset.univ fun c : Dev nD => bigSep Finset.univ fun pi : Fin 4 × Fin 16 => tok (pee c pi.1) (1, pi.1, pi.2) := by
    rw [swap, swap]
    exact bigSep_congr fun pi _ => bigSep_univ_equiv (peeE pi.1) (fun c : Dev nD => (tok c (1, pi.1, pi.2) : sProp 𝕄))
  refine (bigSep_mono fun c _ => toks_own c).trans ?_
  unfold payToks
  rw [bigSep_sep', bigSep_sep', bigSep_sep', bigSep_sep', bigSep_sep', bigSep_sep', bigSep_sep', bigSep_sep', hr,
    bigSep_univ_equiv ypE (fun c : Dev nD => (dutyTok ER (kcell (c, none)) 0 0 : sProp 𝕄)),
    bigSep_univ_equiv xpE (fun c : Dev nD => (dutyTok ER (kcell (c, none)) 0 1 : sProp 𝕄)),
    bigSep_univ_equiv opE (fun c : Dev nD => (dutyTok ER (kcell (c, none)) 0 2 : sProp 𝕄))]
  exact BI.Entails.refl _
end Toks

/-- The invariants and rounds reached, without the levels. -/
def records : sProp 𝕄 :=
  iprop((bigSep Finset.univ fun ck : Dev nD × KC => cellInv ER (Rd m ρ) (Kn ck) (kcell ck)) ∗ bigSep Finset.univ fun ck : Dev nD × KC => reached ER (kcell ck) 0)
instance records_persistent : BI.Persistent (records m ρ Kn) := by unfold records; infer_instance

/-- What a device has of this after the set-up. -/
def dealt (c : Dev nD) : sProp 𝕄 := iprop(∃ Kn, records m ρ Kn ∗ (bigSep Finset.univ fun k : KC => pos c k) ∗ payToks c)

theorem regroup :
    (bigSep Finset.univ fun c : Dev nD => iprop((bigSep Finset.univ fun k : KC => iprop(∃ κ : ℕ, cellInv ER (Rd m ρ) κ (kcell (c, k))))
          ∗ ((bigSep Finset.univ fun k : KC => pos c k) ∗ (bigSep Finset.univ fun k : KC => reached ER (kcell (c, k)) 0)) ∗ toks c) : sProp 𝕄)
      ⊢ bigSep Finset.univ (dealt m ρ) := by
  have each : ∀ (Kn : Dev nD × KC → ℕ) (c : Dev nD), iprop(records m ρ Kn ∗ ((bigSep Finset.univ fun k : KC => pos c k) ∗ payToks c)) ⊢ dealt m ρ c := fun Kn c => by
    unfold dealt
    iintro ⟨#H, H'⟩
    iexists Kn
    isplitr; · iexact H
    iexact H'
  have all : ∀ Kn : Dev nD × KC → ℕ, iprop(records m ρ Kn ∗ bigSep Finset.univ fun c : Dev nD => iprop((bigSep Finset.univ fun k : KC => pos c k) ∗ payToks c))
      ⊢ bigSep Finset.univ (dealt m ρ) := fun Kn =>
    (sep_mono_left (BI.bigSep_of_persistent Finset.univ (records m ρ Kn))).trans
      ((Entails.of_eq (bigSep_sep Finset.univ _ _).symm).trans (bigSep_mono fun c _ => each Kn c))
  have hj : iprop((bigSep Finset.univ fun c : Dev nD => bigSep Finset.univ fun k : KC => pos c k) ∗ bigSep Finset.univ fun c : Dev nD => payToks c)
      ⊢ (bigSep Finset.univ fun c : Dev nD => iprop((bigSep Finset.univ fun k : KC => pos c k) ∗ payToks c) : sProp 𝕄) :=
    Entails.of_eq (bigSep_sep Finset.univ _ _).symm
  rw [bigSep_sep', bigSep_sep', bigSep_sep', ← bigSep_univ_prod (fun ck : Dev nD × KC => iprop(∃ κ : ℕ, cellInv ER (Rd m ρ) κ (kcell ck))),
    ← bigSep_univ_prod (fun ck : Dev nD × KC => (reached ER (kcell ck) 0 : sProp 𝕄))]
  iintro ⟨HI, ⟨Hat, #HR⟩, Htok⟩
  ihave HK := (BI.bigSep_exists_pi Finset.univ (fun (ck : Dev nD × KC) (κ : ℕ) => (cellInv ER (Rd m ρ) κ (kcell ck) : sProp 𝕄))) $$ HI
  icases HK with ⟨%Kn, #HI⟩
  ihave Htk := (toks_around (F := F)) $$ Htok
  iapply (all Kn)
  isplitr
  · unfold records; isplitl; · iexact HI
    iexact HR
  · iapply hj
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ deal m ρ c) : sProp 𝕄)
    ⊢ |={Set.univ}=> bigSep Finset.univ (dealt m ρ) :=
  ((bigSep_mono fun c _ => core_alloc m ρ c).trans (bigSep_fupd _ _)).trans (BI.fupd_mono (regroup m ρ))

/-! ### The credit a device starts with -/

theorem owed_none (c d : Dev nD) (h : d = yp c ∨ d = xp c ∨ (d = op c ∧ ¬ IsEnd c)) : (c, none) ∈ owed₀ d := by
  unfold owed₀
  rcases h with rfl | rfl | ⟨rfl, h⟩
  · rw [yp_yp]; split <;> simp
  · rw [xp_xp]; split <;> simp
  · rw [op_op, if_neg (fun h' => h ((end_op c).mp h'))]; simp

theorem owE_mem (c : Dev nD) (i : Fin 16) : (yp c, some (1, 0, i)) ∈ owE c chunks chunks ∧ (xp c, some (1, 3, i)) ∈ owE c chunks chunks := by
  have hi : i ∈ chunks := by revert i; decide
  exact ⟨List.mem_append_left _ (List.mem_map.mpr ⟨i, hi, rfl⟩), List.mem_append_right _ (List.mem_map.mpr ⟨i, hi, rfl⟩)⟩
theorem owM_mem (c : Dev nD) (i : Fin 16) : ∀ p ∈ [(op c, some ((1, 1, i) : OC)), (yp c, some (1, 2, i)), (xp c, some (1, 3, i))], p ∈ owM c chunks := by
  have hi : i ∈ chunks := by revert i; decide
  exact fun p hp => List.mem_flatMap.mpr ⟨i, hi, hp⟩

theorem owed_end {d : Dev nD} (h : IsEnd d) {p : Dev nD × KC} (hp : p ∈ owE d chunks chunks) : p ∈ owed₀ d := by
  unfold owed₀; rw [if_pos h]; exact List.mem_cons_of_mem _ (List.mem_cons_of_mem _ hp)
theorem owed_mid {d : Dev nD} (h : ¬ IsEnd d) {p : Dev nD × KC} (hp : p ∈ owM d chunks) : p ∈ owed₀ d := by
  unfold owed₀; rw [if_neg h]; exact List.mem_cons_of_mem _ (List.mem_cons_of_mem _ (List.mem_cons_of_mem _ hp))

/-- The device that sends to a receive cell in use owes it. -/
theorem owed_some (c : Dev nD) (ph : Fin 4) (i : Fin 16) (h : rUse c ph) : (c, some (1, ph, i)) ∈ owed₀ (pee c ph) := by
  rcases ph with ⟨_ | _ | _ | _ | n, hn⟩
  · have hc : ¬ IsEnd c := h
    have := (owE_mem (yp c) i).1
    rw [yp_yp] at this
    exact owed_end ((end_yp c).mpr hc) this
  · have hc : ¬ IsEnd c := h
    have := owM_mem (op c) i (op (op c), some (1, 1, i)) (by simp)
    rw [op_op] at this
    exact owed_mid (fun h' => hc ((end_op c).mp h')) this
  · have hc : IsEnd c := h
    have := owM_mem (yp c) i (yp (yp c), some (1, 2, i)) (by simp)
    rw [yp_yp] at this
    exact owed_mid (fun h' => (end_yp c).mp h' hc) this
  · show (c, some (1, 3, i)) ∈ owed₀ (xp c)
    by_cases hE : IsEnd (xp c)
    · have := (owE_mem (xp c) i).2
      rw [xp_xp] at this
      exact owed_end hE this
    · have := owM_mem (xp c) i (xp (xp c), some (1, 3, i)) (by simp)
      rw [xp_xp] at this
      exact owed_mid hE this
  · omega

section Cred
omit [FloatOps F]
/-- Credit for at least `n` is credit for `n`. -/
theorem cred_ge (g : GSem nD τ sig) (T : Unit →₀ ℕ) (n : ℕ) (h : n ≤ T ()) : (cred (tallyOn g T) : sProp 𝕄) ⊢ cred (tallyAt g () n) := by
  have e : (tallyOn g T : CellTallies nD τ sig Unit) = tallyAt g () n + tallyAt g () (T () - n) := by
    rw [tallyAt_add, Nat.add_sub_cancel' h]
    unfold tallyAt; exact congrArg _ (Finsupp.ext fun u => by cases u; rw [Finsupp.single_eq_same])
  rw [e]
  have h2 : (cred (tallyAt g () n + tallyAt g () (T () - n)) : sProp 𝕄) ⊢ iprop(cred (tallyAt g () n) ∗ cred (tallyAt g () (T () - n))) := (cred_add _ _).1
  iintro H
  ihave H := h2 $$ H
  icases H with ⟨H, -⟩
  iexact H

theorem credit_bar (c : Dev nD) : (duts c none).card ≤ launchCredit (Pipeline.owing O₀) 0 (kcell (c, none)) () := by
  rw [Pipeline.launchCredit_owing]
  have one : ∀ d, (d = yp c ∨ d = xp c ∨ (d = op c ∧ ¬ IsEnd c)) → 1 ≤ O₀ d (kcell (c, none)) () := fun d hd => OL_mem (owed_none c d hd)
  have sum : ∀ s : Finset (Dev nD), (∀ d ∈ s, d = yp c ∨ d = xp c ∨ (d = op c ∧ ¬ IsEnd c)) → s.card ≤ ∑ d, O₀ d (kcell (c, none)) () := fun s hs => by
    have h1 := Finset.card_nsmul_le_sum s (fun d => O₀ d (kcell (c, none)) ()) 1 fun d hd => one d (hs d hd)
    rw [smul_eq_mul, Nat.mul_one] at h1
    exact h1.trans (Finset.sum_le_sum_of_subset (Finset.subset_univ s))
  by_cases h : IsEnd c
  · rw [duts_end c h]
    have h2 := sum {yp c, xp c} fun d hd => by
      simp only [Finset.mem_insert, Finset.mem_singleton] at hd
      rcases hd with rfl | rfl
      · exact Or.inl rfl
      · exact Or.inr (Or.inl rfl)
    rw [Finset.card_pair (fun e => xp_ne_yp c e.symm)] at h2
    exact h2
  · rw [duts_mid c h]
    have h2 := sum {yp c, xp c, op c} fun d hd => by
      simp only [Finset.mem_insert, Finset.mem_singleton] at hd
      rcases hd with rfl | rfl | rfl
      · exact Or.inl rfl
      · exact Or.inr (Or.inl rfl)
      · exact Or.inr (Or.inr ⟨rfl, h⟩)
    rw [Finset.card_eq_three.mpr ⟨yp c, xp c, op c, fun e => xp_ne_yp c e.symm, fun e => op_ne_yp c e.symm, fun e => op_ne_xp c e.symm, rfl⟩] at h2
    exact h2
theorem credit_rcv (c : Dev nD) (ph : Fin 4) (i : Fin 16) (h : rUse c ph) : N ≤ launchCredit (Pipeline.owing O₀) 0 (kcell (c, some (1, ph, i))) () := by
  rw [Pipeline.launchCredit_owing]
  have h1 : N ≤ O₀ (pee c ph) (kcell (c, some (1, ph, i))) () := OL_mem (owed_some c ph i h)
  exact h1.trans (Finset.single_le_sum (f := fun d => O₀ d (kcell (c, some (1, ph, i))) ()) (fun _ _ => Nat.zero_le _) (Finset.mem_univ (pee c ph)))

theorem drop (P : sProp 𝕄) : P ⊢ iprop(emp) := by
  iintro H; iempintro
/-- Enough credit at every cell gives a device what it waits with. -/
theorem creds_of (c : Dev nD) (T : GSem nD τ sig → Unit →₀ ℕ) (hb : (duts c none).card ≤ T (kcell (c, none)) ())
    (hr : ∀ (ph : Fin 4) (i : Fin 16), rUse c ph → N ≤ T (kcell (c, some (1, ph, i))) ()) :
    (bigSep Finset.univ fun sm : SemLoc sig => (cred (tallyOn ((c.tc : Thread nD τ), sm) (T ((c.tc : Thread nD τ), sm))) : sProp 𝕄)) ⊢ creds c := by
  classical
  refine (BI.bigSep_subset (Finset.subset_univ (Finset.univ.map ⟨csem, csem_injective⟩))).trans ?_
  rw [BI.bigSep_map]
  refine (Entails.of_eq (bigSep_option _)).trans ?_
  unfold creds
  refine BI.Laws.sep_mono (cred_ge (kcell (c, none)) (T (kcell (c, none))) _ hb) ?_
  refine (Entails.of_eq ((bigSep_univ_prod _).trans (bigSep_two _))).trans ?_
  have h : (bigSep Finset.univ fun pi : Fin 4 × Fin 16 => (cred (tallyOn (kcell (c, some (1, pi))) (T (kcell (c, some (1, pi))))) : sProp 𝕄))
      ⊢ bigSep Finset.univ fun pi : Fin 4 × Fin 16 => if rUse c pi.1 then crd c (1, pi.1, pi.2) else iprop(emp) :=
    bigSep_mono fun pi _ => by
      by_cases hu : rUse c pi.1
      · rw [if_pos hu]
        exact cred_ge _ _ _ (hr pi.1 pi.2 hu)
      · rw [if_neg hu]
        exact drop _
  iintro ⟨-, H⟩
  iapply h; iexact H
/-- The launch gives it. -/
theorem creds_intro (c : Dev nD) : (Pipeline.launchCred O₀ c : sProp 𝕄) ⊢ creds c :=
  creds_of c (launchCredit (Pipeline.owing O₀) 0) (credit_bar c) (credit_rcv c)
end Cred

/-! ### The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m ρ c)
      ⊢ |={Set.univ}=> iprop(start m ρ c ∗ emp) := by
  unfold dealt records
  iintro ⟨-, #Hlev, Hcr, -, ⟨%Kn, ⟨#HI, #HR⟩, Hpos, Htok⟩⟩
  ihave Hc := (creds_intro (F := F) c) $$ Hcr
  imodintro
  unfold start
  isplitl
  · isplitr
    · iexists Kn; unfold ctx lvs
      isplitr; · iexact HI
      isplitr; · iexact HR
      iexact Hlev
    isplitl [Hpos]; · iexact Hpos
    isplitl [Htok] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ aAll bAll
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ aAll bAll
  iintro ⟨Hz, Hr⟩
  ihave Hz := (Entails.of_eq (sems_eq (F := F) c)) $$ Hz
  icases Hz with ⟨Hu, Ho⟩
  isplitl [Hu]; · iexact Hu
  isplitl [Ho]; · iexact Ho
  iexact Hr

/-- A staging cell lies below all that is owed. -/
theorem waits (c : Dev nD) : (levAts L lv : sProp 𝕄) ⊢ Pipeline.cellsWaits cfgs (dats m ρ) () 0 c :=
  Pipeline.cellsWaits_intro cfgs (dats m ρ) () 0 c fun w s t => by
    have hz : lv ((c : Thread nD τ), .dma (((cfgs 0).win w).sem s)) () ≤ 0 := by
      have h : dec (.dma (((cfgs 0).win w).sem s)) = none := dec_none fun k => by
        rcases k with _ | k
        · exact fun h => by cases h
        · exact ownSemFacts.disj k w s
      unfold lv; rw [h]
    have ht : ∃ l : List (Dev nD × KC), (dats m ρ 0 c).owed t = OL l ∧ ∀ p ∈ l, 0 < lvK p.2 := by
      rcases t with ⟨_ | _, ht⟩
      · exact ⟨owed₀ c, rfl, owed₀_lv⟩
      · exact ⟨[], rfl, by simp⟩
    obtain ⟨l, e, hl⟩ := ht
    have e' : (dats m ρ ((0 : Fin 1), c).1 c).owed t = OL l := e
    rw [e]
    exact mayWait c _ 0 l hz hl

/-! ### The run -/

/-- The contents of the arrays at the end. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters zero, for any float values, every fair run of the program on the mesh ends, with the
    arrays of every device at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := deal m ρ) (G' := dealt m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds at the end what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.ReduceProof

end
-- ==== Proof.Value.lean ====
/-
# The value of the result

What the run leaves in the result array, read over the extended reals: the sum of the four blocks of the whole array, on
every device.
-/
module

public import proofs.«01_k».proof.Proof.Launch
public import proofs.«01_k».proof.Proof.Gen.ReferenceIdeal.Run
public import Idealize.ShloMosaic.Lib.Pointwise.Reduce
public import Idealize.ShloMosaic.Lib.Pointwise.Reshape
public import Idealize.ShloMosaic.Lib.Pipeline.Value
public import Idealize.ShloMosaic.Lib.Layout

@[expose] public section

noncomputable section

namespace Cert.ReduceProof

open Cert.KernelIdeal Cert.KernelIdeal.Gen
open Idealize.ShloMosaic
open Idealize.ShloMosaic.TcCoe
open Idealize.SL.Sem

/-! ## The two arrays of a device -/

section
variable {F : FTy → Type} [FloatOps F]
variable (m : (ℓ : Loc nD τ sig) → Buf (Elt F) ℓ) (ρ : Dev nD → PrngReg)

/-- What is staged of the argument is the whole argument. -/
theorem xs_eq (c : Dev nD) : xs m ρ c = m ((c.tc : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- What the run leaves in the result array of a device is what its body computes. -/
theorem finalA_o (c : Dev nD) : finalA m ρ c (1 : Fin 2) = Gm m ρ c := by
  have hz : (fun a => (win0_1.index (0 : Fin 1)) a * main_v1.ty.shape.size a) = fun _ => 0 := funext fun a => by fin_cases a <;> decide
  refine (Memref.read_access_unit_zero (Elt F) main_v1 hz (fun a => by fin_cases a <;> decide) _).symm.trans ?_
  show (win0_1.blk (0 : Fin 1)).view.read (Elt F) (finalA m ρ c (1 : Fin 2)) = Gm m ρ c
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _
end

/-! ## The sum of the four blocks -/

/-- The coordinate of a device on the axis that is summed over. -/
def yc (c : Dev nD) : Fin 4 := ⟨(c.val / 4) % 4, Nat.mod_lt _ (by decide)⟩

theorem yc_xp (c : Dev nD) : yc (xp c) = yc c := by revert c; decide
/-- A middle device, its outer neighbour, the other middle device and its outer neighbour have the four coordinates. -/
theorem yc_mid (c : Dev nD) : ¬ IsEnd c →
    (yc c = 1 ∧ yc (yp c) = 0 ∧ yc (op c) = 2 ∧ yc (yp (op c)) = 3) ∨ (yc c = 2 ∧ yc (yp c) = 3 ∧ yc (op c) = 1 ∧ yc (yp (op c)) = 0) := by
  revert c; decide
theorem mid_not_end (c : Dev nD) : ¬ IsEnd (mid c) := by revert c; decide

/-- The index of the whole array that block `k` has at its index `j`. -/
def rowOf (k : Fin 4) (j : S4096x1024.Idx) : (⟨2, ![16384, 1024]⟩ : Shape).Idx :=
  ix2 ⟨k.val * 4096 + (j 0).val, by have h : (j 0).val < 4096 := (j 0).isLt; have := k.isLt; omega⟩ ⟨(j 1).val, (j 1).isLt⟩

/-- The sum of the four blocks of a whole array. -/
def total (X : (⟨2, ![16384, 1024]⟩ : Shape).Idx → EReal) (j : S4096x1024.Idx) : EReal := ∑ k : Fin 4, X (rowOf k j)

/-- The block a device holds of a whole array is the one its coordinate names. -/
theorem block_eq (c : Dev nD) (X : (⟨2, ![16384, 1024]⟩ : Shape).Idx → EReal) (j : S4096x1024.Idx) :
    (Layout.blockN ⟨2, ![4096, 1024]⟩ ⟨2, ![16384, 1024]⟩ (Layout.meshBlock [2, 4, 4] ![[1], []] c) X : S4096x1024.Idx → EReal) j = X (rowOf (yc c) j) := by
  rw [Layout.blockN_apply]
  refine congrArg X (funext fun b => Fin.ext ?_)
  rw [Layout.TilesN.idx_val]
  match b with
  | ⟨0, _⟩ =>
    show Layout.meshLin [2, 4, 4] c.val [1] * 4096 + (j 0).val = (c.val / 4) % 4 * 4096 + (j 0).val
    simp [Layout.meshLin, Layout.meshCoord, Layout.cutSize]
  | ⟨1, _⟩ =>
    show Layout.meshLin [2, 4, 4] c.val [] * 1024 + (j 1).val = (j 1).val
    simp [Layout.meshLin]

section
variable (m : (ℓ : Loc nD τ sig) → Buf (Elt Ideal) ℓ) (ρ : Dev nD → PrngReg) (X : (⟨2, ![16384, 1024]⟩ : Shape).Idx → EReal)
  (hX : ∀ c j, xs m ρ c j = X (rowOf (yc c) j))
include hX

/-- The two sums a middle device takes add the four blocks. -/
theorem Tm_total {c : Dev nD} (hc : ¬ IsEnd c) (j : S4096x1024.Idx) : Tm m ρ c j = total X j := by
  show (xs m ρ c j + xs m ρ (yp c) j : EReal) + (xs m ρ (op c) j + xs m ρ (yp (op c)) j) = _
  rw [hX, hX, hX, hX]
  unfold total
  rw [Fin.sum_univ_four]
  obtain ⟨h1, h2, h3, h4⟩ | ⟨h1, h2, h3, h4⟩ := yc_mid c hc
  · rw [h1, h2, h3, h4, add_comm (X (rowOf 1 j)), ← add_assoc]
  · rw [h1, h2, h3, h4, add_comm (X (rowOf 1 j)), add_comm, ← add_assoc]

/-- So every device ends with the sum of the four blocks. -/
theorem Gm_total (c : Dev nD) : Gm m ρ c = total X := by
  funext j
  unfold Gm
  split
  · exact Tm_total m ρ X hX (mid_not_end c) j
  · exact Tm_total m ρ X hX (fun h => mid_not_end c ((end_xp _).mp h)) j
end

/-! ## The reference -/

/-- The place of an element in the whole array, and in the array of the four blocks. -/
theorem flat_two (a : Fin 16384) (b : Fin 1024) : ((⟨2, ![16384, 1024]⟩ : Shape).rowMajor (ix2 a b)).val = a.val * 1024 + b.val :=
  Shape.rowMajor_val_two _
theorem flat_three (a : Fin 4) (b : Fin 4096) (c : Fin 1024) :
    ((⟨3, ![4, 4096, 1024]⟩ : Shape).rowMajor (ix3 a b c)).val = (a.val * 4096 + b.val) * 1024 + c.val :=
  Shape.rowMajor_val_three _

/-- The reference's result is the sum of the four blocks of its argument. -/
theorem ref_total (X : (⟨2, ![16384, 1024]⟩ : Shape).Idx → EReal) :
    (truncf .bf16 (Host.reduceAdd (shapeCast _ (extf (F := Ideal) (φ := .bf16) .f32 X Cert.ReferenceIdeal.Facts₀.bitsLt_bf16_f32)
        Cert.ReferenceIdeal.Facts₀.shapeCasts_S16384x1024_S4x4096x1024)
      (constant (F := Ideal) Cert.ReferenceIdeal.S_ .f32 0x00000000#32) Cert.ReferenceIdeal.Facts₀.reducesTo_S4x4096x1024_S4096x1024_d0
      Cert.ReferenceIdeal.Facts₀.h_S_) Cert.ReferenceIdeal.Facts₀.bitsLt_bf16_f32 : FVec Ideal S4096x1024 .bf16) = total X := by
  funext j
  show Host.reduceAdd (F := Ideal) _ _ _ _ j = _
  rw [Host.reduceAdd_apply, Ideal.hostReduceAdd_def]
  erw [Ideal.hostReduceAdd_r3_a0]
  show Ideal.ofBits .f32 0x00000000#32 + _ = _
  rw [Ideal.ofBits_zero_f32, zero_add]
  refine Finset.sum_congr rfl fun k _ => ?_
  refine shapeCast_apply _ _ _ (rowOf k j) ?_
  exact (flat_two _ _).trans (flat_three _ _ _).symm

end Cert.ReduceProof

end
-- ==== Proof.lean ====
/-
# The proof of the certificate's claims

The program runs to the end on the whole mesh with its arguments unchanged and its counters at zero, both as compiled and
idealized; the reference does; and the idealized program's result is the reference's on every device.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem Cert.ReduceProof

/-- The idealized program ends with its argument unchanged on every device and every counter at zero. -/
theorem frame_ideal : Cert.quiescent_KernelIdeal := fun m ρ _ =>
  (θ_run Cert.KernelIdeal.defs _ _).mono (fun _ h => ⟨fun c => (h.1 c (0 : Fin 2)).trans (finalA_x m ρ c), h.2⟩) (run_main (F := Ideal) m ρ)

/-- The two programs have the same kernel body, -/
theorem same_body : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext ℓ x
  match ℓ, x with
  | 0, (t, s) => rfl

/-- and so the same table of bodies. -/
theorem same_defs : Cert.Kernel.defs (F := Bits) = Cert.KernelIdeal.defs (F := Bits) := by
  unfold Cert.Kernel.defs Cert.KernelIdeal.defs
  rw [same_body]; rfl

/-- The program ends with its argument unchanged on every device and every counter at zero: it has the idealized program's text,
    whose run is proved for any float values. -/
theorem frame_kernel : Cert.quiescent_Kernel := by
  intro m ρ _
  rw [same_defs]
  exact (θ_run Cert.KernelIdeal.defs _ _).mono (fun _ h => ⟨fun c => (h.1 c (0 : Fin 2)).trans (finalA_x m ρ c), h.2⟩)
    (run_main (F := Bits) m ρ)

/-- The reference ends with its argument unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over the extended reals, where each device starts with its block of the reference's argument, every device ends with the
    reference's result: the sum of the four blocks. -/
theorem value : Cert.algebraic_KernelIdeal_ReferenceIdeal := by
  intro m ρ m' ρ' _ hagree
  refine ⟨total (m' (((0 : Dev Cert.ReferenceIdeal.nD).tc : Thread _ Cert.ReferenceIdeal.τ).loc Cert.ReferenceIdeal.main_arg0)), ?_, ?_⟩
  · refine (θ_run Cert.KernelIdeal.defs _ _).mono
      (fun _ h c => ⟨(h.1 c (1 : Fin 2)).trans ((finalA_o m ρ c).trans (Gm_total m ρ _ (fun c j => ?_) c)),
        (h.1 c (0 : Fin 2)).trans (finalA_x m ρ c)⟩) (run_main (F := Ideal) m ρ)
    rw [xs_eq, hagree c]
    exact block_eq c _ j
  · exact (θ_run Cert.ReferenceIdeal.defs _ _).mono (fun _ h => ⟨(h 0).1.trans (ref_total _), (h 0).2⟩)
      (Cert.ReferenceIdeal.Value.run m' ρ')

/-- The claims. -/
theorem claim : Cert.Claim := ⟨Cert.Kernel.Gen.facts, Cert.KernelIdeal.Gen.facts, Cert.ReferenceIdeal.Gen.facts,
  frame_kernel, frame_ideal, frame_reference, trivial, value⟩

end Cert.Proof

end
